-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated_reals [hPre_separated_reals : Cert.Pre_separated_reals.Facts] (m : (ℓ : Loc Cert.KernelIdeal.nD Cert.KernelIdeal.τ Cert.KernelIdeal.sig) → Buf (Elt Ideal) ℓ) : Prop :=
  ∀ c : Dev Cert.KernelIdeal.nD,
    (Cert.Pre_separated_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated_reals [hPre_separated_reals : Cert.Pre_separated_reals.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_separated_reals [hKernelIdeal : Cert.KernelIdeal.Facts] [hPre_separated_reals : Cert.Pre_separated_reals.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated_reals m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_separated_reals [hReferenceIdeal : Cert.ReferenceIdeal.Facts] [hPre_separated_reals : Cert.Pre_separated_reals.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated_reals m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_separated_reals [hKernelIdeal : Cert.KernelIdeal.Facts] [hReferenceIdeal : Cert.ReferenceIdeal.Facts] [hPre_separated_reals : Cert.Pre_separated_reals.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated_reals m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_separated_reals : Cert.Pre_separated_reals.Facts),
    quiescent_Kernel (hKernel := hKernel)
    ∧ quiescent_KernelIdeal (hKernelIdeal := hKernelIdeal)
    ∧ quiescent_KernelIdeal_pre_separated_reals (hKernelIdeal := hKernelIdeal) (hPre_separated_reals := hPre_separated_reals)
    ∧ quiescent_ReferenceIdeal (hReferenceIdeal := hReferenceIdeal)
    ∧ quiescent_ReferenceIdeal_pre_separated_reals (hReferenceIdeal := hReferenceIdeal) (hPre_separated_reals := hPre_separated_reals)
    ∧ preserves_Kernel_KernelIdeal
    ∧ algebraic_KernelIdeal_ReferenceIdeal_pre_separated_reals (hKernelIdeal := hKernelIdeal) (hReferenceIdeal := hReferenceIdeal) (hPre_separated_reals := hPre_separated_reals)
-- ==== Pre_separated_reals.lean ====
abbrev S32768x3 : Shape := ⟨2, ![32768, 3]⟩
abbrev S32768x256 : Shape := ⟨2, ![32768, 256]⟩
abbrev S8192x3 : Shape := ⟨2, ![8192, 3]⟩
abbrev S8192x512 : Shape := ⟨2, ![8192, 512]⟩
abbrev S256x256 : Shape := ⟨2, ![256, 256]⟩
abbrev S256 : Shape := ⟨1, ![256]⟩
abbrev S512x256 : Shape := ⟨2, ![512, 256]⟩
abbrev S9 : Shape := ⟨1, ![9]⟩
abbrev S8x4096x3 : Shape := ⟨3, ![8, 4096, 3]⟩
abbrev S8x1024x3 : Shape := ⟨3, ![8, 1024, 3]⟩
abbrev S_ : Shape := ⟨0, ![]⟩
abbrev S8x4096 : Shape := ⟨2, ![8, 4096]⟩
abbrev S8x1024 : Shape := ⟨2, ![8, 1024]⟩
abbrev S8x4096x1024 : Shape := ⟨3, ![8, 4096, 1024]⟩
abbrev S8x4096x1 : Shape := ⟨3, ![8, 4096, 1]⟩
abbrev S8x1x1024 : Shape := ⟨3, ![8, 1, 1024]⟩
abbrev S8x4096x4 : Shape := ⟨3, ![8, 4096, 4]⟩

class Facts : Prop where
  shapeCasts_S32768x3_S8x4096x3 : S32768x3.ShapeCasts S8x4096x3
  shapeCasts_S8192x3_S8x1024x3 : S8192x3.ShapeCasts S8x1024x3
  reducesTo_S8x4096x3_S8x4096_d2 : S8x4096x3.ReducesTo [2] S8x4096
  h_S_ : 0 < S_.numel
  reducesTo_S8x1024x3_S8x1024_d2 : S8x1024x3.ReducesTo [2] S8x1024
  bcast_S8x4096_S8x4096x1_0_1 : S8x4096.BroadcastsInDim S8x4096x1 (![0, 1] : Fin 2 → Fin S8x4096x1.rank)
  bcast_S8x1024_S8x1x1024_0_2 : S8x1024.BroadcastsInDim S8x1x1024 (![0, 2] : Fin 2 → Fin S8x1x1024.rank)
  bcast_S8x4096x1_S8x4096x1024_0_1_2 : S8x4096x1.BroadcastsInDim S8x4096x1024 (![0, 1, 2] : Fin 3 → Fin S8x4096x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  sliceFits_S8x4096x1024_S8x4096x4 : S8x4096x1024.Slices (fun _ => 0) S8x4096x4
  slices_S8x4096x4_S8x4096x1_0_0_2 : S8x4096x4.Slices ![0, 0, 2] S8x4096x1
  shapeCasts_S8x4096x1_S8x4096 : S8x4096x1.ShapeCasts S8x4096
  slices_S8x4096x4_S8x4096x1_0_0_3 : S8x4096x4.Slices ![0, 0, 3] S8x4096x1
  reducesTo_S8x4096_S_d0_1 : S8x4096.ReducesTo [0, 1] S_
  bcast_S_S32768x3 : S_.BroadcastsInDim S32768x3 (![] : Fin 0 → Fin S32768x3.rank)
  reducesTo_S32768x3_S_d0_1 : S32768x3.ReducesTo [0, 1] S_
  bcast_S_S32768x256 : S_.BroadcastsInDim S32768x256 (![] : Fin 0 → Fin S32768x256.rank)
  reducesTo_S32768x256_S_d0_1 : S32768x256.ReducesTo [0, 1] S_
  bcast_S_S8192x3 : S_.BroadcastsInDim S8192x3 (![] : Fin 0 → Fin S8192x3.rank)
  reducesTo_S8192x3_S_d0_1 : S8192x3.ReducesTo [0, 1] S_
  bcast_S_S8192x512 : S_.BroadcastsInDim S8192x512 (![] : Fin 0 → Fin S8192x512.rank)
  reducesTo_S8192x512_S_d0_1 : S8192x512.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  dot_S8x4096x3_S8x1024x3_S8x4096x1024_2_2_1_1_0_0_wf : DotDims.WF S8x4096x3 S8x1024x3 S8x4096x1024 [2] [2] [1] [1] [0] [0]

variable [Facts]

def dot_S8x4096x3_S8x1024x3_S8x4096x1024_2_2_1_1_0_0 : DotDims S8x4096x3 S8x1024x3 S8x4096x1024 where
  lhsContracting := [2]
  rhsContracting := [2]
  lhsNonContracting := [1]
  rhsNonContracting := [1]
  lhsBatch := [0]
  rhsBatch := [0]
  wf := dot_S8x4096x3_S8x1024x3_S8x4096x1024_2_2_1_1_0_0_wf
def fn_part4 {F : FTy → Type} [FloatOps F] (main_v68 : IVec S_ 1) (main_v69 : FVec F S256 .f32) (main_cst_21 : FVec F S_ .f32) : IVec S_ 1 :=
  let main_v70 : FVec F S256 .f32 := broadcastInDim S256 ![] bcast_S_S256 main_cst_21
  let main_v71 : IVec S256 1 := cmpf .olt main_v69 main_v70
  let main_c_22 : IVec S_ 1 := constantI S_ 1 1#1
  let main_v72 : IVec S_ 1 := (fun x v => Host.reduce IntOp.andi x v reducesTo_S256_S_d0 h_S_) main_v71 main_c_22
  let main_v73 : IVec S_ 1 := andi main_v68 main_v72
  main_v73

def fn_part3 {F : FTy → Type} [FloatOps F] (main_arg6 : FVec F S256 .f32) (main_arg8 : FVec F S512x256 .f32) (main_arg9 : FVec F S256 .f32) (main_arg10 : FVec F S256 .f32) (main_v48 : IVec S_ 1) (main_v52 : IVec S_ 1) : IVec S_ 1 :=
  let main_v53 : IVec S_ 1 := andi main_v48 main_v52
  let main_v54 : FVec F S256 .f32 := Host.absf main_arg6
  let main_cst_15 : FVec F S_ .f32 := constant S_ .f32 0x7F800000#32
  let main_v55 : FVec F S256 .f32 := broadcastInDim S256 ![] bcast_S_S256 main_cst_15
  let main_v56 : IVec S256 1 := cmpf .olt main_v54 main_v55
  let main_c_16 : IVec S_ 1 := constantI S_ 1 1#1
  let main_v57 : IVec S_ 1 := (fun x v => Host.reduce IntOp.andi x v reducesTo_S256_S_d0 h_S_) main_v56 main_c_16
  let main_v58 : IVec S_ 1 := andi main_v53 main_v57
  let main_v59 : FVec F S512x256 .f32 := Host.absf main_arg8
  let main_cst_17 : FVec F S_ .f32 := constant S_ .f32 0x7F800000#32
  let main_v60 : FVec F S512x256 .f32 := broadcastInDim S512x256 ![] bcast_S_S512x256 main_cst_17
  let main_v61 : IVec S512x256 1 := cmpf .olt main_v59 main_v60
  let main_c_18 : IVec S_ 1 := constantI S_ 1 1#1
  let main_v62 : IVec S_ 1 := (fun x v => Host.reduce IntOp.andi x v reducesTo_S512x256_S_d0_1 h_S_) main_v61 main_c_18
  let main_v63 : IVec S_ 1 := andi main_v58 main_v62
  let main_v64 : FVec F S256 .f32 := Host.absf main_arg9
  let main_cst_19 : FVec F S_ .f32 := constant S_ .f32 0x7F800000#32
  let main_v65 : FVec F S256 .f32 := broadcastInDim S256 ![] bcast_S_S256 main_cst_19
  let main_v66 : IVec S256 1 := cmpf .olt main_v64 main_v65
  let main_c_20 : IVec S_ 1 := constantI S_ 1 1#1
  let main_v67 : IVec S_ 1 := (fun x v => Host.reduce IntOp.andi x v reducesTo_S256_S_d0 h_S_) main_v66 main_c_20
  let main_v68 : IVec S_ 1 := andi main_v63 main_v67
  let main_v69 : FVec F S256 .f32 := Host.absf main_arg10
  let main_cst_21 : FVec F S_ .f32 := constant S_ .f32 0x7F800000#32
  fn_part4 (F := F) main_v68 main_v69 main_cst_21

def fn_part2 {F : FTy → Type} [FloatOps F] (main_arg3 : FVec F S8192x512 .f32) (main_arg4 : FVec F S256x256 .f32) (main_arg5 : FVec F S256 .f32) (main_arg6 : FVec F S256 .f32) (main_arg8 : FVec F S512x256 .f32) (main_arg9 : FVec F S256 .f32) (main_arg10 : FVec F S256 .f32) (main_v33 : IVec S_ 1) (main_v34 : FVec F S8192x3 .f32) (main_v35 : FVec F S8192x3 .f32) : IVec S_ 1 :=
  let main_v36 : IVec S8192x3 1 := cmpf .olt main_v34 main_v35
  let main_c_8 : IVec S_ 1 := constantI S_ 1 1#1
  let main_v37 : IVec S_ 1 := (fun x v => Host.reduce IntOp.andi x v reducesTo_S8192x3_S_d0_1 h_S_) main_v36 main_c_8
  let main_v38 : IVec S_ 1 := andi main_v33 main_v37
  let main_v39 : FVec F S8192x512 .f32 := Host.absf main_arg3
  let main_cst_9 : FVec F S_ .f32 := constant S_ .f32 0x7F800000#32
  let main_v40 : FVec F S8192x512 .f32 := broadcastInDim S8192x512 ![] bcast_S_S8192x512 main_cst_9
  let main_v41 : IVec S8192x512 1 := cmpf .olt main_v39 main_v40
  let main_c_10 : IVec S_ 1 := constantI S_ 1 1#1
  let main_v42 : IVec S_ 1 := (fun x v => Host.reduce IntOp.andi x v reducesTo_S8192x512_S_d0_1 h_S_) main_v41 main_c_10
  let main_v43 : IVec S_ 1 := andi main_v38 main_v42
  let main_v44 : FVec F S256x256 .f32 := Host.absf main_arg4
  let main_cst_11 : FVec F S_ .f32 := constant S_ .f32 0x7F800000#32
  let main_v45 : FVec F S256x256 .f32 := broadcastInDim S256x256 ![] bcast_S_S256x256 main_cst_11
  let main_v46 : IVec S256x256 1 := cmpf .olt main_v44 main_v45
  let main_c_12 : IVec S_ 1 := constantI S_ 1 1#1
  let main_v47 : IVec S_ 1 := (fun x v => Host.reduce IntOp.andi x v reducesTo_S256x256_S_d0_1 h_S_) main_v46 main_c_12
  let main_v48 : IVec S_ 1 := andi main_v43 main_v47
  let main_v49 : FVec F S256 .f32 := Host.absf main_arg5
  let main_cst_13 : FVec F S_ .f32 := constant S_ .f32 0x7F800000#32
  let main_v50 : FVec F S256 .f32 := broadcastInDim S256 ![] bcast_S_S256 main_cst_13
  let main_v51 : IVec S256 1 := cmpf .olt main_v49 main_v50
  let main_c_14 : IVec S_ 1 := constantI S_ 1 1#1
  let main_v52 : IVec S_ 1 := (fun x v => Host.reduce IntOp.andi x v reducesTo_S256_S_d0 h_S_) main_v51 main_c_14
  fn_part3 (F := F) main_arg6 main_arg8 main_arg9 main_arg10 main_v48 main_v52

def fn_part1 {F : FTy → Type} [FloatOps F] (main_arg0 : FVec F S32768x3 .f32) (main_arg1 : FVec F S32768x256 .f32) (main_arg2 : FVec F S8192x3 .f32) (main_arg3 : FVec F S8192x512 .f32) (main_arg4 : FVec F S256x256 .f32) (main_arg5 : FVec F S256 .f32) (main_arg6 : FVec F S256 .f32) (main_arg8 : FVec F S512x256 .f32) (main_arg9 : FVec F S256 .f32) (main_arg10 : FVec F S256 .f32) (main_values : FVec F S8x4096x4 .f32) : IVec S_ 1 :=
  let main_v18 : FVec F S8x4096x1 .f32 := (extractStridedSlice S8x4096x1 ![0, 0, 2] · slices_S8x4096x4_S8x4096x1_0_0_2) main_values
  let main_v19 : FVec F S8x4096 .f32 := shapeCast S8x4096 main_v18 shapeCasts_S8x4096x1_S8x4096
  let main_v20 : FVec F S8x4096x1 .f32 := (extractStridedSlice S8x4096x1 ![0, 0, 3] · slices_S8x4096x4_S8x4096x1_0_0_3) main_values
  let main_v21 : FVec F S8x4096 .f32 := shapeCast S8x4096 main_v20 shapeCasts_S8x4096x1_S8x4096
  let main_v22 : IVec S8x4096 1 := cmpf .ogt main_v19 main_v21
  let main_c : IVec S_ 1 := constantI S_ 1 1#1
  let main_v23 : IVec S_ 1 := (fun x v => Host.reduce IntOp.andi x v reducesTo_S8x4096_S_d0_1 h_S_) main_v22 main_c
  let main_v24 : FVec F S32768x3 .f32 := Host.absf main_arg0
  let main_cst_3 : FVec F S_ .f32 := constant S_ .f32 0x7F800000#32
  let main_v25 : FVec F S32768x3 .f32 := broadcastInDim S32768x3 ![] bcast_S_S32768x3 main_cst_3
  let main_v26 : IVec S32768x3 1 := cmpf .olt main_v24 main_v25
  let main_c_4 : IVec S_ 1 := constantI S_ 1 1#1
  let main_v27 : IVec S_ 1 := (fun x v => Host.reduce IntOp.andi x v reducesTo_S32768x3_S_d0_1 h_S_) main_v26 main_c_4
  let main_v28 : IVec S_ 1 := andi main_v23 main_v27
  let main_v29 : FVec F S32768x256 .f32 := Host.absf main_arg1
  let main_cst_5 : FVec F S_ .f32 := constant S_ .f32 0x7F800000#32
  let main_v30 : FVec F S32768x256 .f32 := broadcastInDim S32768x256 ![] bcast_S_S32768x256 main_cst_5
  let main_v31 : IVec S32768x256 1 := cmpf .olt main_v29 main_v30
  let main_c_6 : IVec S_ 1 := constantI S_ 1 1#1
  let main_v32 : IVec S_ 1 := (fun x v => Host.reduce IntOp.andi x v reducesTo_S32768x256_S_d0_1 h_S_) main_v31 main_c_6
  let main_v33 : IVec S_ 1 := andi main_v28 main_v32
  let main_v34 : FVec F S8192x3 .f32 := Host.absf main_arg2
  let main_cst_7 : FVec F S_ .f32 := constant S_ .f32 0x7F800000#32
  let main_v35 : FVec F S8192x3 .f32 := broadcastInDim S8192x3 ![] bcast_S_S8192x3 main_cst_7
  fn_part2 (F := F) main_arg3 main_arg4 main_arg5 main_arg6 main_arg8 main_arg9 main_arg10 main_v33 main_v34 main_v35

def fn {F : FTy → Type} [FloatOps F] (main_arg0 : FVec F S32768x3 .f32) (main_arg1 : FVec F S32768x256 .f32) (main_arg2 : FVec F S8192x3 .f32) (main_arg3 : FVec F S8192x512 .f32) (main_arg4 : FVec F S256x256 .f32) (main_arg5 : FVec F S256 .f32) (main_arg6 : FVec F S256 .f32) (main_arg7 : FVec F S256 .f32) (main_arg8 : FVec F S512x256 .f32) (main_arg9 : FVec F S256 .f32) (main_arg10 : FVec F S256 .f32) (main_arg11 : FVec F S256 .f32) (main_arg12 : IVec S9 32) (main_arg13 : IVec S9 32) : IVec S_ 1 :=
  let main_v0 : FVec F S8x4096x3 .f32 := shapeCast S8x4096x3 main_arg0 shapeCasts_S32768x3_S8x4096x3
  let main_v1 : FVec F S8x1024x3 .f32 := shapeCast S8x1024x3 main_arg2 shapeCasts_S8192x3_S8x1024x3
  let main_v2 : FVec F S8x4096x3 .f32 := mulf main_v0 main_v0
  let main_cst : FVec F S_ .f32 := constant S_ .f32 0x00000000#32
  let main_v3 : FVec F S8x4096 .f32 := (fun x v => Host.reduceAdd x v reducesTo_S8x4096x3_S8x4096_d2 h_S_) main_v2 main_cst
  let main_v4 : FVec F S8x1024x3 .f32 := mulf main_v1 main_v1
  let main_cst_0 : FVec F S_ .f32 := constant S_ .f32 0x00000000#32
  let main_v5 : FVec F S8x1024 .f32 := (fun x v => Host.reduceAdd x v reducesTo_S8x1024x3_S8x1024_d2 h_S_) main_v4 main_cst_0
  let main_v6 : FVec F S8x4096x1024 .f32 := (fun l r => Host.dotGeneral dot_S8x4096x3_S8x1024x3_S8x4096x1024_2_2_1_1_0_0 none l r) main_v0 main_v1
  let main_v7 : FVec F S8x4096x1 .f32 := broadcastInDim S8x4096x1 ![0, 1] bcast_S8x4096_S8x4096x1_0_1 main_v3
  let main_v8 : FVec F S8x1x1024 .f32 := broadcastInDim S8x1x1024 ![0, 2] bcast_S8x1024_S8x1x1024_0_2 main_v5
  let main_v9 : FVec F S8x4096x1024 .f32 := broadcastInDim S8x4096x1024 ![0, 1, 2] bcast_S8x4096x1_S8x4096x1024_0_1_2 main_v7
  let main_v10 : FVec F S8x4096x1024 .f32 := broadcastInDim S8x4096x1024 ![0, 1, 2] bcast_S8x1x1024_S8x4096x1024_0_1_2 main_v8
  let main_v11 : FVec F S8x4096x1024 .f32 := addf main_v9 main_v10
  let main_cst_1 : FVec F S_ .f32 := constant S_ .f32 0x40000000#32
  let main_v12 : FVec F S8x4096x1024 .f32 := broadcastInDim S8x4096x1024 ![] bcast_S_S8x4096x1024 main_cst_1
  let main_v13 : FVec F S8x4096x1024 .f32 := mulf main_v12 main_v6
  let main_v14 : FVec F S8x4096x1024 .f32 := subf main_v11 main_v13
  let main_cst_2 : FVec F S_ .f32 := constant S_ .f32 0x00000000#32
  let main_v15 : FVec F S8x4096x1024 .f32 := broadcastInDim S8x4096x1024 ![] bcast_S_S8x4096x1024 main_cst_2
  let main_v16 : FVec F S8x4096x1024 .f32 := maximumf main_v14 main_v15
  let main_v17 : FVec F S8x4096x1024 .f32 := Host.negf main_v16
  let main_values : FVec F S8x4096x4 .f32 := (fun x => (Host.topK S8x4096x4 2 (FloatOps.cmpfTotal .gt) x sliceFits_S8x4096x1024_S8x4096x4).1) main_v17
  let main_indices : IVec S8x4096x4 32 := (fun x => (Host.topK S8x4096x4 2 (FloatOps.cmpfTotal .gt) x sliceFits_S8x4096x1024_S8x4096x4).2) main_v17
  fn_part1 (F := F) main_arg0 main_arg1 main_arg2 main_arg3 main_arg4 main_arg5 main_arg6 main_arg8 main_arg9 main_arg10 main_values
-- ==== Kernel.lean ====
abbrev S32768x3 : Shape := ⟨2, ![32768, 3]⟩
abbrev S32768x256 : Shape := ⟨2, ![32768, 256]⟩
abbrev S8192x3 : Shape := ⟨2, ![8192, 3]⟩
abbrev S8192x512 : Shape := ⟨2, ![8192, 512]⟩
abbrev S256x256 : Shape := ⟨2, ![256, 256]⟩
abbrev S256 : Shape := ⟨1, ![256]⟩
abbrev S512x256 : Shape := ⟨2, ![512, 256]⟩
abbrev S9 : Shape := ⟨1, ![9]⟩
abbrev S_ : Shape := ⟨0, ![]⟩
abbrev S32768 : Shape := ⟨1, ![32768]⟩
abbrev S8192 : Shape := ⟨1, ![8192]⟩
abbrev S8192x1 : Shape := ⟨2, ![8192, 1]⟩
abbrev S16x1x2048 : Shape := ⟨3, ![16, 1, 2048]⟩
abbrev S32768x8 : Shape := ⟨2, ![32768, 8]⟩
abbrev S8192x4 : Shape := ⟨2, ![8192, 4]⟩
abbrev S8192x8 : Shape := ⟨2, ![8192, 8]⟩
abbrev S1x256 : Shape := ⟨2, ![1, 256]⟩
abbrev S4096x256 : Shape := ⟨2, ![4096, 256]⟩
abbrev S8192x256 : Shape := ⟨2, ![8192, 256]⟩
abbrev S4096x512 : Shape := ⟨2, ![4096, 512]⟩
abbrev S2048x256 : Shape := ⟨2, ![2048, 256]⟩
abbrev S2048x8 : Shape := ⟨2, ![2048, 8]⟩
abbrev S1024x8 : Shape := ⟨2, ![1024, 8]⟩
abbrev S1x1x2048 : Shape := ⟨3, ![1, 1, 2048]⟩
abbrev S1024x256 : Shape := ⟨2, ![1024, 256]⟩
abbrev S1x2048 : Shape := ⟨2, ![1, 2048]⟩
abbrev S1024x1 : Shape := ⟨2, ![1024, 1]⟩
abbrev S1024x2048 : Shape := ⟨2, ![1024, 2048]⟩
abbrev S128x2048 : Shape := ⟨2, ![128, 2048]⟩
abbrev S64x2048 : Shape := ⟨2, ![64, 2048]⟩
abbrev S32x2048 : Shape := ⟨2, ![32, 2048]⟩
abbrev S16x2048 : Shape := ⟨2, ![16, 2048]⟩
abbrev S8x2048 : Shape := ⟨2, ![8, 2048]⟩
abbrev S4x2048 : Shape := ⟨2, ![4, 2048]⟩
abbrev S2x2048 : Shape := ⟨2, ![2, 2048]⟩

abbrev nBuf : Space → Nat
  | .hbm => 78
  | .vmem => 32
  | .smem => 0
  | _ => 0

abbrev bufTy : (tb : Table) → Fin (tcTables nBuf tb) → BufTy
  | .hbm, ⟨0, _⟩ => ⟨S32768x3, .f32⟩
  | .hbm, ⟨1, _⟩ => ⟨S32768x256, .f32⟩
  | .hbm, ⟨2, _⟩ => ⟨S8192x3, .f32⟩
  | .hbm, ⟨3, _⟩ => ⟨S8192x512, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S512x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S9, .i32⟩
  | .hbm, ⟨13, _⟩ => ⟨S9, .i32⟩
  | .hbm, ⟨14, _⟩ => ⟨S32768x3, .f32⟩
  | .hbm, ⟨15, _⟩ => ⟨S_, .f32⟩
  | .hbm, ⟨16, _⟩ => ⟨S32768, .f32⟩
  | .hbm, ⟨17, _⟩ => ⟨S8192x3, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S16x1x2048, .f32⟩
  | .hbm, ⟨22, _⟩ => ⟨S_, .f32⟩
  | .hbm, ⟨23, _⟩ => ⟨S32768x3, .f32⟩
  | .hbm, ⟨24, _⟩ => ⟨S32768x3, .f32⟩
  | .hbm, ⟨25, _⟩ => ⟨S_, .i32⟩
  | .hbm, ⟨26, _⟩ => ⟨S_, .f32⟩
  | .hbm, ⟨27, _⟩ => ⟨S32768x8, .f32⟩
  | .hbm, ⟨28, _⟩ => ⟨S_, .f32⟩
  | .hbm, ⟨29, _⟩ => ⟨S8192x4, .f32⟩
  | .hbm, ⟨30, _⟩ => ⟨S8192x8, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S8192x256, .f32⟩
  | .hbm, ⟨36, _⟩ => ⟨S1x256, .f32⟩
  | .hbm, ⟨37, _⟩ => ⟨S1x256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S1x256, .f32⟩
  | .hbm, ⟨56, _⟩ => ⟨S1x256, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S256, .f32⟩
  | .hbm, ⟨66, _⟩ => ⟨S256, .f32⟩
  | .hbm, ⟨67, _⟩ => ⟨S_, .f32⟩
  | .hbm, ⟨68, _⟩ => ⟨S256, .f32⟩
  | .hbm, ⟨69, _⟩ => ⟨S256, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S32768x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S4096x512, .f32⟩
  | .local _ .vmem, ⟨7, _⟩ => ⟨S4096x512, .f32⟩
  | .local _ .vmem, ⟨8, _⟩ => ⟨S512x256, .f32⟩
  | .local _ .vmem, ⟨9, _⟩ => ⟨S1x256, .f32⟩
  | .local _ .vmem, ⟨10, _⟩ => ⟨S4096x256, .f32⟩
  | .local _ .vmem, ⟨11, _⟩ => ⟨S4096x256, .f32⟩
  | .local _ .vmem, ⟨12, _⟩ => ⟨S1x256, .f32⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | .local _ .vmem, ⟨16, _⟩ => ⟨S256x256, .f32⟩
  | .local _ .vmem, ⟨17, _⟩ => ⟨S1x256, .f32⟩
  | .local _ .vmem, ⟨18, _⟩ => ⟨S2048x8, .f32⟩
  | .local _ .vmem, ⟨19, _⟩ => ⟨S2048x8, .f32⟩
  | .local _ .vmem, ⟨20, _⟩ => ⟨S1024x8, .f32⟩
  | .local _ .vmem, ⟨21, _⟩ => ⟨S1024x8, .f32⟩
  | .local _ .vmem, ⟨22, _⟩ => ⟨S1x1x2048, .f32⟩
  | .local _ .vmem, ⟨23, _⟩ => ⟨S1x1x2048, .f32⟩
  | .local _ .vmem, ⟨24, _⟩ => ⟨S1024x256, .f32⟩
  | .local _ .vmem, ⟨25, _⟩ => ⟨S1024x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S2048x256, .f32⟩
  | .local _ .vmem, ⟨31, _⟩ => ⟨S2048x256, .f32⟩
  | _, _ => ⟨S32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_call0_v0 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_v14_2 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_5 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg11_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem11_0 : DmaSem sig := 30
abbrev cc2_sem11_1 : DmaSem sig := 31

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg0 : BitVec 32 := BitVec.ofNat 32 (i 0).val
  let c0_i32_8 : BitVec 32 := 0#32
  let v15 : BitVec 1 := Scalar.cmpi .ne arg0 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![2], ![false]⟩

def k1_cond1 (i : grid1.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_9 : BitVec 32 := 0#32
  let v15 : BitVec 1 := Scalar.cmpi .ne v14 c0_i32_9
  v15

def k1_cond2 (i : grid1.Coords) : BitVec 1 :=
  let arg0 : BitVec 32 := BitVec.ofNat 32 (i 0).val
  let c0_i32_10 : BitVec 32 := 0#32
  let v16 : BitVec 1 := Scalar.cmpi .ne arg0 c0_i32_10
  let v17 : BitVec 32 := Scalar.extui v16
  let c0_i32_11 : BitVec 32 := 0#32
  let v18 : BitVec 1 := Scalar.cmpi .ne v17 c0_i32_11
  v18

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1024x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 2 → Memref sig .tc .vmem S2048x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]
-- ==== ReferenceIdeal.lean ====
abbrev S32768x3 : Shape := ⟨2, ![32768, 3]⟩
abbrev S32768x256 : Shape := ⟨2, ![32768, 256]⟩
abbrev S8192x3 : Shape := ⟨2, ![8192, 3]⟩
abbrev S8192x512 : Shape := ⟨2, ![8192, 512]⟩
abbrev S256x256 : Shape := ⟨2, ![256, 256]⟩
abbrev S256 : Shape := ⟨1, ![256]⟩
abbrev S512x256 : Shape := ⟨2, ![512, 256]⟩
abbrev S9 : Shape := ⟨1, ![9]⟩
abbrev S1x256 : Shape := ⟨2, ![1, 256]⟩
abbrev S_ : Shape := ⟨0, ![]⟩
abbrev S8192x256 : Shape := ⟨2, ![8192, 256]⟩
abbrev S8x4096x3 : Shape := ⟨3, ![8, 4096, 3]⟩
abbrev S8x1024x3 : Shape := ⟨3, ![8, 1024, 3]⟩
abbrev S8x1024x256 : Shape := ⟨3, ![8, 1024, 256]⟩
abbrev S8x4096 : Shape := ⟨2, ![8, 4096]⟩
abbrev S8x1024 : Shape := ⟨2, ![8, 1024]⟩
abbrev S8x4096x1024 : Shape := ⟨3, ![8, 4096, 1024]⟩
abbrev S8x4096x1 : Shape := ⟨3, ![8, 4096, 1]⟩
abbrev S8x1x1024 : Shape := ⟨3, ![8, 1, 1024]⟩
abbrev S8x4096x3x1 : Shape := ⟨4, ![8, 4096, 3, 1]⟩
abbrev S8x4096x3x256 : Shape := ⟨4, ![8, 4096, 3, 256]⟩
abbrev S8x4096x256 : Shape := ⟨3, ![8, 4096, 256]⟩

abbrev nBuf : Space → Nat
  | .hbm => 169
  | .vmem => 0
  | .smem => 0
  | _ => 0

abbrev hbmTy0_0 (i : Nat) : BufTy := match i % 128 with
  | 0 => ⟨S32768x3, .f32⟩
  | 1 => ⟨S32768x256, .f32⟩
  | 2 => ⟨S8192x3, .f32⟩
  | 3 => ⟨S8192x512, .f32⟩
  | 4 => ⟨S256x256, .f32⟩
  | 5 => ⟨S256, .f32⟩
  | 6 => ⟨S256, .f32⟩
  | 7 => ⟨S256, .f32⟩
  | 8 => ⟨S512x256, .f32⟩
  | 9 => ⟨S256, .f32⟩
  | 10 => ⟨S256, .f32⟩
  | 11 => ⟨S256, .f32⟩
  | 12 => ⟨S9, .i32⟩
  | 13 => ⟨S9, .i32⟩
  | 14 => ⟨S32768x256, .f32⟩
  | 15 => ⟨S1x256, .f32⟩
  | 16 => ⟨S32768x256, .f32⟩
  | 17 => ⟨S32768x256, .f32⟩
  | 18 => ⟨S_, .f32⟩
  | 19 => ⟨S256, .f32⟩
  | 20 => ⟨S_, .f32⟩
  | 21 => ⟨S256, .f32⟩
  | 22 => ⟨S256, .f32⟩
  | 23 => ⟨S_, .i32⟩
  | 24 => ⟨S_, .f32⟩
  | 25 => ⟨S256, .f32⟩
  | 26 => ⟨S1x256, .f32⟩
  | 27 => ⟨S_, .f32⟩
  | 28 => ⟨S1x256, .f32⟩
  | 29 => ⟨S1x256, .f32⟩
  | 30 => ⟨S32768x256, .f32⟩
  | 31 => ⟨S32768x256, .f32⟩
  | 32 => ⟨S32768x256, .f32⟩
  | 33 => ⟨S_, .f32⟩
  | 34 => ⟨S_, .f32⟩
  | 35 => ⟨S_, .f32⟩
  | 36 => ⟨S_, .f32⟩
  | 37 => ⟨S256, .f32⟩
  | 38 => ⟨S256, .f32⟩
  | 39 => ⟨S256, .f32⟩
  | 40 => ⟨S_, .f32⟩
  | 41 => ⟨S_, .i1⟩
  | 42 => ⟨S_, .f32⟩
  | 43 => ⟨S_, .f32⟩
  | 44 => ⟨S256, .f32⟩
  | 45 => ⟨S256, .f32⟩
  | 46 => ⟨S1x256, .f32⟩
  | 47 => ⟨S32768x256, .f32⟩
  | 48 => ⟨S32768x256, .f32⟩
  | 49 => ⟨S1x256, .f32⟩
  | 50 => ⟨S32768x256, .f32⟩
  | 51 => ⟨S32768x256, .f32⟩
  | 52 => ⟨S_, .f32⟩
  | 53 => ⟨S256, .f32⟩
  | 54 => ⟨S256, .f32⟩
  | 55 => ⟨S256, .f32⟩
  | 56 => ⟨S1x256, .f32⟩
  | 57 => ⟨S32768x256, .f32⟩
  | 58 => ⟨S32768x256, .f32⟩
  | 59 => ⟨S1x256, .f32⟩
  | 60 => ⟨S32768x256, .f32⟩
  | 61 => ⟨S32768x256, .f32⟩
  | 62 => ⟨S_, .f32⟩
  | 63 => ⟨S32768x256, .f32⟩
  | 64 => ⟨S32768x256, .f32⟩
  | 65 => ⟨S8192x256, .f32⟩
  | 66 => ⟨S1x256, .f32⟩
  | 67 => ⟨S8192x256, .f32⟩
  | 68 => ⟨S8192x256, .f32⟩
  | 69 => ⟨S_, .f32⟩
  | 70 => ⟨S256, .f32⟩
  | 71 => ⟨S_, .f32⟩
  | 72 => ⟨S256, .f32⟩
  | 73 => ⟨S256, .f32⟩
  | 74 => ⟨S_, .i32⟩
  | 75 => ⟨S_, .f32⟩
  | 76 => ⟨S256, .f32⟩
  | 77 => ⟨S1x256, .f32⟩
  | 78 => ⟨S_, .f32⟩
  | 79 => ⟨S1x256, .f32⟩
  | 80 => ⟨S1x256, .f32⟩
  | 81 => ⟨S8192x256, .f32⟩
  | 82 => ⟨S8192x256, .f32⟩
  | 83 => ⟨S8192x256, .f32⟩
  | 84 => ⟨S_, .f32⟩
  | 85 => ⟨S_, .f32⟩
  | 86 => ⟨S_, .f32⟩
  | 87 => ⟨S_, .f32⟩
  | 88 => ⟨S256, .f32⟩
  | 89 => ⟨S256, .f32⟩
  | 90 => ⟨S256, .f32⟩
  | 91 => ⟨S_, .f32⟩
  | 92 => ⟨S_, .i1⟩
  | 93 => ⟨S_, .f32⟩
  | 94 => ⟨S_, .f32⟩
  | 95 => ⟨S256, .f32⟩
  | 96 => ⟨S256, .f32⟩
  | 97 => ⟨S1x256, .f32⟩
  | 98 => ⟨S8192x256, .f32⟩
  | 99 => ⟨S8192x256, .f32⟩
  | 100 => ⟨S1x256, .f32⟩
  | 101 => ⟨S8192x256, .f32⟩
  | 102 => ⟨S8192x256, .f32⟩
  | 103 => ⟨S_, .f32⟩
  | 104 => ⟨S256, .f32⟩
  | 105 => ⟨S256, .f32⟩
  | 106 => ⟨S256, .f32⟩
  | 107 => ⟨S1x256, .f32⟩
  | 108 => ⟨S8192x256, .f32⟩
  | 109 => ⟨S8192x256, .f32⟩
  | 110 => ⟨S1x256, .f32⟩
  | 111 => ⟨S8192x256, .f32⟩
  | 112 => ⟨S8192x256, .f32⟩
  | 113 => ⟨S_, .f32⟩
  | 114 => ⟨S8192x256, .f32⟩
  | 115 => ⟨S8192x256, .f32⟩
  | 116 => ⟨S8x4096x3, .f32⟩
  | 117 => ⟨S8x1024x3, .f32⟩
  | 118 => ⟨S8x1024x256, .f32⟩
  | 119 => ⟨S8x4096x3, .f32⟩
  | 120 => ⟨S_, .f32⟩
  | 121 => ⟨S8x4096, .f32⟩
  | 122 => ⟨S8x1024x3, .f32⟩
  | 123 => ⟨S_, .f32⟩
  | 124 => ⟨S8x1024, .f32⟩
  | 125 => ⟨S8x4096x1024, .f32⟩
  | 126 => ⟨S8x4096x1, .f32⟩
  | 127 => ⟨S8x1x1024, .f32⟩
  | _ => ⟨S32768x3, .f32⟩

abbrev hbmTy0_1 (i : Nat) : BufTy := match i % 128 with
  | 0 => ⟨S8x4096x1024, .f32⟩
  | 1 => ⟨S8x4096x1024, .f32⟩
  | 2 => ⟨S8x4096x1024, .f32⟩
  | 3 => ⟨S_, .f32⟩
  | 4 => ⟨S8x4096x1024, .f32⟩
  | 5 => ⟨S8x4096x1024, .f32⟩
  | 6 => ⟨S8x4096x1024, .f32⟩
  | 7 => ⟨S_, .f32⟩
  | 8 => ⟨S8x4096x1024, .f32⟩
  | 9 => ⟨S8x4096x1024, .f32⟩
  | 10 => ⟨S8x4096x1024, .f32⟩
  | 11 => ⟨S8x4096x3, .f32⟩
  | 12 => ⟨S8x4096x3, .i32⟩
  | 13 => ⟨S8x4096x3, .f32⟩
  | 14 => ⟨S_, .f32⟩
  | 15 => ⟨S8x4096x3, .f32⟩
  | 16 => ⟨S8x4096x3, .f32⟩
  | 17 => ⟨S_, .f32⟩
  | 18 => ⟨S8x4096x3, .f32⟩
  | 19 => ⟨S8x4096x3, .f32⟩
  | 20 => ⟨S_, .f32⟩
  | 21 => ⟨S8x4096, .f32⟩
  | 22 => ⟨S8x4096x1, .f32⟩
  | 23 => ⟨S8x4096x3, .f32⟩
  | 24 => ⟨S8x4096x3, .f32⟩
  | 25 => ⟨S_, .i32⟩
  | 26 => ⟨S8x4096x3, .i32⟩
  | 27 => ⟨S8x4096x3, .i1⟩
  | 28 => ⟨S_, .i32⟩
  | 29 => ⟨S8x4096x3, .i32⟩
  | 30 => ⟨S8x4096x3, .i32⟩
  | 31 => ⟨S8x4096x3, .i32⟩
  | 32 => ⟨S8x4096x3x1, .i32⟩
  | 33 => ⟨S8x4096x3x256, .f32⟩
  | 34 => ⟨S8x4096x3x1, .f32⟩
  | 35 => ⟨S8x4096x3x256, .f32⟩
  | 36 => ⟨S8x4096x3x256, .f32⟩
  | 37 => ⟨S_, .f32⟩
  | 38 => ⟨S8x4096x256, .f32⟩
  | 39 => ⟨S32768x256, .f32⟩
  | 40 => ⟨S32768x256, .f32⟩
  | _ => ⟨S32768x3, .f32⟩

abbrev hbmTy (i : Nat) : BufTy := match i / 128 with
  | 0 => hbmTy0_0 i
  | 1 => hbmTy0_1 i
  | _ => ⟨S32768x3, .f32⟩

abbrev bufTy : (tb : Table) → Fin (tcTables nBuf tb) → BufTy
  | .hbm, ⟨i, _⟩ => hbmTy i
  | _, _ => ⟨S32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_call1_cst : Ref sig .tc := ⟨.hbm, 62, rfl⟩
abbrev main_call1_v0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_2 : Ref sig .tc := ⟨.hbm, 69, rfl⟩
abbrev main_v28 : Ref sig .tc := ⟨.hbm, 70, rfl⟩
abbrev main_cst_3 : Ref sig .tc := ⟨.hbm, 71, rfl⟩
abbrev main_v29 : Ref sig .tc := ⟨.hbm, 72, rfl⟩
abbrev main_v30 : Ref sig .tc := ⟨.hbm, 73, rfl⟩
abbrev main_c_4 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_cst_1 : Ref sig .tc := ⟨.hbm, 85, rfl⟩
abbrev main_call2_v8 : Ref sig .tc := ⟨.hbm, 86, rfl⟩
abbrev main_call2_cst_2 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_cst_3 : Ref sig .tc := ⟨.hbm, 91, rfl⟩
abbrev main_call2_v12 : Ref sig .tc := ⟨.hbm, 92, rfl⟩
abbrev main_call2_cst_4 : Ref sig .tc := ⟨.hbm, 93, rfl⟩
abbrev main_call2_call0_v0 : Ref sig .tc := ⟨.hbm, 94, rfl⟩
abbrev main_call2_call0_v1 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_cst_5 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_call3_cst : Ref sig .tc := ⟨.hbm, 113, rfl⟩
abbrev main_call3_v0 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_cst_6 : Ref sig .tc := ⟨.hbm, 120, rfl⟩
abbrev main_v52 : Ref sig .tc := ⟨.hbm, 121, rfl⟩
abbrev main_v53 : Ref sig .tc := ⟨.hbm, 122, rfl⟩
abbrev main_cst_7 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_8 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_cst_9 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_values : Ref sig .tc := ⟨.hbm, 139, rfl⟩
abbrev main_indices : Ref sig .tc := ⟨.hbm, 140, rfl⟩
abbrev main_v67 : Ref sig .tc := ⟨.hbm, 141, rfl⟩
abbrev main_cst_10 : Ref sig .tc := ⟨.hbm, 142, rfl⟩
abbrev main_v68 : Ref sig .tc := ⟨.hbm, 143, rfl⟩
abbrev main_v69 : Ref sig .tc := ⟨.hbm, 144, rfl⟩
abbrev main_cst_11 : Ref sig .tc := ⟨.hbm, 145, rfl⟩
abbrev main_v70 : Ref sig .tc := ⟨.hbm, 146, rfl⟩
abbrev main_v71 : Ref sig .tc := ⟨.hbm, 147, rfl⟩
abbrev main_cst_12 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_c_13 : Ref sig .tc := ⟨.hbm, 153, rfl⟩
abbrev main_v76 : Ref sig .tc := ⟨.hbm, 154, rfl⟩
abbrev main_v77 : Ref sig .tc := ⟨.hbm, 155, rfl⟩
abbrev main_c_14 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_cst_15 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩

abbrev nD : Nat := 1
abbrev τ : Topo := Topo.v7x

variable {F : FTy → Type} [FloatOps F]
-- ==== Proof.Ideal.Region0.lean ====
/- Region 0 of the program: the sums and the sums of squares of the first linear layer. The body run at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the array contents `V` that region 0 starts with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: its buffer holds its block when the body starts at point `t`, for all proof data
    over the arrays `V` whose body leaves that block unchanged. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0: its buffer holds its block when the body starts at point `t`, for all proof data
    over the arrays `V` whose body leaves that block unchanged. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of region 0: its buffer holds its block when the body starts at point `t`, for all proof data
    over the arrays `V` whose body leaves that block unchanged. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The test of conditional 0 in the body of region 0, at grid coordinates `i`. -/
abbrev cond0_0 (i : grid0.Coords) : Prop := k0_cond1 i = 1#1

/-- That test, in terms of the number of the grid point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- The test of conditional 1 in the body of region 0, at grid coordinates `i`. -/
abbrev cond0_1 (i : grid0.Coords) : Prop := k0_cond2 i = 1#1

/-- That test, in terms of the number of the grid point. -/
theorem hcond0_1 : ∀ t : Fin cfg0.N, cond0_1 (grid0.coords t) ↔ 1 ≤ t.val :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ 1 ≤ t.val)

/-- Window 0 of region 0 is in use at every grid point. -/
theorem liveAt0_0 : ∀ t : Fin cfg0.N, cfg0.idle 0 (grid0.coords t) = false := fun _ => rfl

/-- Window 1 of region 0 is in use at every grid point. -/
theorem liveAt0_1 : ∀ t : Fin cfg0.N, cfg0.idle 1 (grid0.coords t) = false := fun _ => rfl

/-- Window 2 of region 0 is in use at every grid point. -/
theorem liveAt0_2 : ∀ t : Fin cfg0.N, cfg0.idle 2 (grid0.coords t) = false := fun _ => rfl

/-- Whether the buffer of output 3 of region 0 holds nothing stored since its last write-back, by grid position. -/
def freshTab0_3 : ℕ → Bool
  | 0 => true
  | n + 1 => (0x80 : ℕ).testBit n

/-- The table satisfies the step from one grid position to the next. -/
theorem freshTab0_3_step : ∀ t : Fin cfg0.N,
    freshTab0_3 (t.val + 1) = ((cfg0.win 3).flush t || (cfg0.idle 3 (cfg0.grid.coords t) && freshTab0_3 t.val)) := by decide +kernel

/-- The table is the configuration's own record. -/
theorem fresh0_3_eq (t : Fin cfg0.N) : cfg0.fresh 3 t.val = freshTab0_3 t.val :=
  Pipeline.Cfg.fresh_tab cfg0 3 freshTab0_3 rfl freshTab0_3_step t.val (Nat.le_of_lt t.isLt)

/-- Output 3 of region 0 is stored at every point of case A. -/
theorem liveAt0_3_A : ∀ t : Fin cfg0.N, cond0_0 (grid0.coords t) → ¬cond0_1 (grid0.coords t) → cfg0.idle 3 (grid0.coords t) = false := by decide +kernel

/-- Output 3 of region 0 is stored at every point of case B. -/
theorem liveAt0_3_B : ∀ t : Fin cfg0.N, ¬cond0_0 (grid0.coords t) → cond0_1 (grid0.coords t) → cfg0.idle 3 (grid0.coords t) = false := by decide +kernel

/-- At the points of case B the buffer of output 3 of region 0 holds what an earlier point stored. -/
theorem notFresh0_3_B : ∀ t : Fin cfg0.N, ¬cond0_0 (grid0.coords t) → cond0_1 (grid0.coords t) → cfg0.fresh 3 t.val = false := by
  intro t; rw [fresh0_3_eq t]; revert t; decide +kernel

/-- Whether the buffer of output 4 of region 0 holds nothing stored since its last write-back, by grid position. -/
def freshTab0_4 : ℕ → Bool
  | 0 => true
  | n + 1 => (0x80 : ℕ).testBit n

/-- The table satisfies the step from one grid position to the next. -/
theorem freshTab0_4_step : ∀ t : Fin cfg0.N,
    freshTab0_4 (t.val + 1) = ((cfg0.win 4).flush t || (cfg0.idle 4 (cfg0.grid.coords t) && freshTab0_4 t.val)) := by decide +kernel

/-- The table is the configuration's own record. -/
theorem fresh0_4_eq (t : Fin cfg0.N) : cfg0.fresh 4 t.val = freshTab0_4 t.val :=
  Pipeline.Cfg.fresh_tab cfg0 4 freshTab0_4 rfl freshTab0_4_step t.val (Nat.le_of_lt t.isLt)

/-- Output 4 of region 0 is stored at every point of case A. -/
theorem liveAt0_4_A : ∀ t : Fin cfg0.N, cond0_0 (grid0.coords t) → ¬cond0_1 (grid0.coords t) → cfg0.idle 4 (grid0.coords t) = false := by decide +kernel

/-- Output 4 of region 0 is stored at every point of case B. -/
theorem liveAt0_4_B : ∀ t : Fin cfg0.N, ¬cond0_0 (grid0.coords t) → cond0_1 (grid0.coords t) → cfg0.idle 4 (grid0.coords t) = false := by decide +kernel

/-- At the points of case B the buffer of output 4 of region 0 holds what an earlier point stored. -/
theorem notFresh0_4_B : ∀ t : Fin cfg0.N, ¬cond0_0 (grid0.coords t) → cond0_1 (grid0.coords t) → cfg0.fresh 4 t.val = false := by
  intro t; rw [fresh0_4_eq t]; revert t; decide +kernel

abbrev VO0_3 : View sig .tc .vmem S1x256 .f32 := (Memref.whole cc0_stg3_0 : Memref sig .tc .vmem S1x256 .f32).view
abbrev VO0_4 : View sig .tc .vmem S1x256 .f32 := (Memref.whole cc0_stg4_0 : Memref sig .tc .vmem S1x256 .f32).view
abbrev ms0_0 (t : Fin cfg0.N) : Memref sig .tc .vmem S4096x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)

set_option maxHeartbeats 1000000 in
/-- The body of region 0 run in case A: the pieces that it stores in each output, with the proof that it runs from
    the inputs' blocks to those pieces and leaves the inputs unchanged. -/
noncomputable def kernelRun0_A (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : cond0_0 i) (hc1 : ¬cond0_1 i)
    (x0 : Vec F S4096x256 .f32) (x1 : Vec F S256x256 .f32) (x2 : Vec F S1x256 .f32) :
    Σ' (L3 : List (View.Piece (Elt F) S1x256 .f32)), { L4 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__linear_stats_kernel i arg1 harg1 arg2 harg2 arg3 harg3 arg4 harg4 arg5 harg5) K } := by
  refine ⟨?_, ?_, fun E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The pieces that case A of region 0 stores in output 3 cover the whole block. -/
theorem cover0_A_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : cond0_0 i) (hc1 : ¬cond0_1 i)
    (x0 : Vec F S4096x256 .f32) (x1 : Vec F S256x256 .f32) (x2 : Vec F S1x256 .f32) (y : S1x256.Idx) :
    ∃ pc ∈ (kernelRun0_A c i arg1 harg1 arg2 harg2 arg3 harg3 arg4 harg4 arg5 harg5 hc0 hc1 x0 x1 x2).1, y ∈ pc.1.set :=
  View.cover_of_tiledL (kernelRun0_A c i arg1 harg1 arg2 harg2 arg3 harg3 arg4 harg4 arg5 harg5 hc0 hc1 x0 x1 x2).1 S1x256.size (by sl_kernel_rfl) y

/-- What case A of region 0 leaves in the buffer of output 3. -/
def out0_A_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : cond0_0 i) (hc1 : ¬cond0_1 i)
    (x0 : Vec F S4096x256 .f32) (x1 : Vec F S256x256 .f32) (x2 : Vec F S1x256 .f32) : Vec F S1x256 .f32 :=
  VO0_3.read (Elt F) (VO0_3.writes (Elt F) VO0_3.junk (kernelRun0_A c i arg1 harg1 arg2 harg2 arg3 harg3 arg4 harg4 arg5 harg5 hc0 hc1 x0 x1 x2).1)

/-- The pieces that case A of region 0 stores in output 4 cover the whole block. -/
theorem cover0_A_4 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : cond0_0 i) (hc1 : ¬cond0_1 i)
    (x0 : Vec F S4096x256 .f32) (x1 : Vec F S256x256 .f32) (x2 : Vec F S1x256 .f32) (y : S1x256.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S1x256.size (by sl_kernel_rfl) y

/-- What case A of region 0 leaves in the buffer of output 4. -/
def out0_A_4 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : cond0_0 i) (hc1 : ¬cond0_1 i)
    (x0 : Vec F S4096x256 .f32) (x1 : Vec F S256x256 .f32) (x2 : Vec F S1x256 .f32) : Vec F S1x256 .f32 :=
  VO0_4.read (Elt F) (VO0_4.writes (Elt F) VO0_4.junk (kernelRun0_A c i arg1 harg1 arg2 harg2 arg3 harg3 arg4 harg4 arg5 harg5 hc0 hc1 x0 x1 x2).2.1)

set_option maxHeartbeats 1000000 in
/-- The body of region 0 run in case B: the pieces that it stores in each output, with the proof that it runs from
    the inputs' blocks to those pieces and leaves the inputs unchanged. -/
noncomputable def kernelRun0_B (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond0_0 i) (hc1 : cond0_1 i)
    (x0 : Vec F S4096x256 .f32) (x1 : Vec F S256x256 .f32) (x2 : Vec F S1x256 .f32) (xo3 : Vec F S1x256 .f32) (xo4 : Vec F S1x256 .f32) :
    Σ' (L3 : List (View.Piece (Elt F) S1x256 .f32)), { L4 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3 ∗ owns (c : Thread nD τ) arg5 fullShare xo4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__linear_stats_kernel i arg1 harg1 arg2 harg2 arg3 harg3 arg4 harg4 arg5 harg5) K } := by
  refine ⟨?_, ?_, fun E K => ?run⟩
  case run =>
    simp only [cc0__linear_stats_kernel_eq_skeleton]; unfold cc0__linear_stats_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- The pieces that case B of region 0 stores in output 3 cover the whole block. -/
theorem cover0_B_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond0_0 i) (hc1 : cond0_1 i)
    (x0 : Vec F S4096x256 .f32) (x1 : Vec F S256x256 .f32) (x2 : Vec F S1x256 .f32) (xo3 : Vec F S1x256 .f32) (xo4 : Vec F S1x256 .f32) (y : S1x256.Idx) :
    ∃ pc ∈ (kernelRun0_B c i arg1 harg1 arg2 harg2 arg3 harg3 arg4 harg4 arg5 harg5 hc0 hc1 x0 x1 x2 xo3 xo4).1, y ∈ pc.1.set :=
  View.cover_of_tiledL (kernelRun0_B c i arg1 harg1 arg2 harg2 arg3 harg3 arg4 harg4 arg5 harg5 hc0 hc1 x0 x1 x2 xo3 xo4).1 S1x256.size (by sl_kernel_rfl) y

/-- What case B of region 0 leaves in the buffer of output 3. -/
def out0_B_3 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond0_0 i) (hc1 : cond0_1 i)
    (x0 : Vec F S4096x256 .f32) (x1 : Vec F S256x256 .f32) (x2 : Vec F S1x256 .f32) (xo3 : Vec F S1x256 .f32) (xo4 : Vec F S1x256 .f32) : Vec F S1x256 .f32 :=
  VO0_3.read (Elt F) (VO0_3.writes (Elt F) VO0_3.junk (kernelRun0_B c i arg1 harg1 arg2 harg2 arg3 harg3 arg4 harg4 arg5 harg5 hc0 hc1 x0 x1 x2 xo3 xo4).1)

/-- The pieces that case B of region 0 stores in output 4 cover the whole block. -/
theorem cover0_B_4 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond0_0 i) (hc1 : cond0_1 i)
    (x0 : Vec F S4096x256 .f32) (x1 : Vec F S256x256 .f32) (x2 : Vec F S1x256 .f32) (xo3 : Vec F S1x256 .f32) (xo4 : Vec F S1x256 .f32) (y : S1x256.Idx) :
    ∃ pc ∈ (kernelRun0_B c i arg1 harg1 arg2 harg2 arg3 harg3 arg4 harg4 arg5 harg5 hc0 hc1 x0 x1 x2 xo3 xo4).2.1, y ∈ pc.1.set :=
  View.cover_of_tiledL (kernelRun0_B c i arg1 harg1 arg2 harg2 arg3 harg3 arg4 harg4 arg5 harg5 hc0 hc1 x0 x1 x2 xo3 xo4).2.1 S1x256.size (by sl_kernel_rfl) y

/-- What case B of region 0 leaves in the buffer of output 4. -/
def out0_B_4 (c : Dev nD) (i : grid0.Coords) (arg1 : Memref sig .tc .vmem S4096x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (hc0 : ¬cond0_0 i) (hc1 : cond0_1 i)
    (x0 : Vec F S4096x256 .f32) (x1 : Vec F S256x256 .f32) (x2 : Vec F S1x256 .f32) (xo3 : Vec F S1x256 .f32) (xo4 : Vec F S1x256 .f32) : Vec F S1x256 .f32 :=
  VO0_4.read (Elt F) (VO0_4.writes (Elt F) VO0_4.junk (kernelRun0_B c i arg1 harg1 arg2 harg2 arg3 harg3 arg4 harg4 arg5 harg5 hc0 hc1 x0 x1 x2 xo3 xo4).2.1)

/-- What the output buffers of region 0 hold after the body at position `n`: the first point starts the sums, each
    later point adds to what the point before left. -/
def outsAt0 (c : Dev nD) : (n : ℕ) → n < cfg0.N → Vec F S1x256 .f32 × Vec F S1x256 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : 1 ≤ (n + 1) then
        False.elim (by have hN : n + 1 < 8 := lt_of_lt_of_eq hn (show cfg0.N = 8 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : 1 ≤ (n + 1) then
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2)
      else
        False.elim (by have hN : n + 1 < 8 := lt_of_lt_of_eq hn (show cfg0.N = 8 from N_0); omega)

/-- The same at a point of case A. -/
theorem outsAt0_A (c : Dev nD) (t : Fin cfg0.N) (h0 : t.val % 8 = 0) (h1 : ¬1 ≤ t.val) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- The same at a point of case B. -/
theorem outsAt0_B (c : Dev nD) (t : Fin cfg0.N) (h0 : ¬t.val % 8 = 0) (h1 : 1 ≤ t.val) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The proof data of region 0: its arrays at entry and what each window's buffer holds after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

/-- The arrays of region 0's proof data are the contents at entry. -/
theorem A_eq0 (c : Dev nD) (w : Fin cfg0.W) : (dat0 V c).A w = V c (Pipeline.arrRef spec0 w) := by
  dsimp only [dat0]

/-- What window 0 of region 0 holds after the body at point `t`. -/
theorem after0_0 (c : Dev nD) (t : Fin cfg0.N) : (dat0 V c).after 0 t = iblk0 V c 0 t := by dsimp only [dat0]

/-- What window 1 of region 0 holds after the body at point `t`. -/
theorem after0_1 (c : Dev nD) (t : Fin cfg0.N) : (dat0 V c).after 1 t = iblk0 V c 1 t := by dsimp only [dat0]

/-- What window 2 of region 0 holds after the body at point `t`. -/
theorem after0_2 (c : Dev nD) (t : Fin cfg0.N) : (dat0 V c).after 2 t = iblk0 V c 2 t := by dsimp only [dat0]

/-- What window 3 of region 0 holds after the body at point `t`. -/
theorem after0_3 (c : Dev nD) (t : Fin cfg0.N) : (dat0 V c).after 3 t = (outsAt0 V c t.val t.isLt).1 := by dsimp only [dat0]

/-- What window 4 of region 0 holds after the body at point `t`. -/
theorem after0_4 (c : Dev nD) (t : Fin cfg0.N) : (dat0 V c).after 4 t = (outsAt0 V c t.val t.isLt).2 := by dsimp only [dat0]

/-- What input window 0 of region 0 holds before the body at point `t`. -/
theorem before0_0 (c : Dev nD) (t : Fin cfg0.N) (d) : (dat0 V c).before 0 t d = iblk0 V c 0 t :=
  before0_0_of V (dat0 V c) (A_eq0 V c 0) (after0_0 V c) t d

/-- What input window 1 of region 0 holds before the body at point `t`. -/
theorem before0_1 (c : Dev nD) (t : Fin cfg0.N) (d) : (dat0 V c).before 1 t d = iblk0 V c 1 t :=
  before0_1_of V (dat0 V c) (A_eq0 V c 1) (after0_1 V c) t d

/-- What input window 2 of region 0 holds before the body at point `t`. -/
theorem before0_2 (c : Dev nD) (t : Fin cfg0.N) (d) : (dat0 V c).before 2 t d = iblk0 V c 2 t :=
  before0_2_of V (dat0 V c) (A_eq0 V c 2) (after0_2 V c) t d

/-- Output 3 of region 0 keeps its contents over a point that does not store it. -/
theorem hcarry0_3 (c : Dev nD) : ∀ (t : Fin cfg0.N) (_ : t.val ≠ 0), cfg0.idle 3 (grid0.coords t) = true → cfg0.fresh 3 t.val = false →
    (dat0 V c).after 3 t = (dat0 V c).after 3 ⟨t.val - 1, by omega⟩ := by
  intro t _ hi _
  have hN : t.val < 8 := lt_of_lt_of_eq t.isLt (show cfg0.N = 8 from N_0)
  rw [after0_3, after0_3]
  by_cases h0 : t.val % 8 = 0
  · by_cases h1 : 1 ≤ t.val
    · exfalso; omega
    · rw [liveAt0_3_A t ((hcond0_0 t).mpr h0) (fun h => h1 ((hcond0_1 t).mp h))] at hi
      exact absurd hi Bool.false_ne_true
  · by_cases h1 : 1 ≤ t.val
    · rw [liveAt0_3_B t (fun h => h0 ((hcond0_0 t).mp h)) ((hcond0_1 t).mpr h1)] at hi
      exact absurd hi Bool.false_ne_true
    · exfalso; omega

/-- Output 4 of region 0 keeps its contents over a point that does not store it. -/
theorem hcarry0_4 (c : Dev nD) : ∀ (t : Fin cfg0.N) (_ : t.val ≠ 0), cfg0.idle 4 (grid0.coords t) = true → cfg0.fresh 4 t.val = false →
    (dat0 V c).after 4 t = (dat0 V c).after 4 ⟨t.val - 1, by omega⟩ := by
  intro t _ hi _
  have hN : t.val < 8 := lt_of_lt_of_eq t.isLt (show cfg0.N = 8 from N_0)
  rw [after0_4, after0_4]
  by_cases h0 : t.val % 8 = 0
  · by_cases h1 : 1 ≤ t.val
    · exfalso; omega
    · rw [liveAt0_4_A t ((hcond0_0 t).mpr h0) (fun h => h1 ((hcond0_1 t).mp h))] at hi
      exact absurd hi Bool.false_ne_true
  · by_cases h1 : 1 ≤ t.val
    · rw [liveAt0_4_B t (fun h => h0 ((hcond0_0 t).mp h)) ((hcond0_1 t).mpr h1)] at hi
      exact absurd hi Bool.false_ne_true
    · exfalso; omega

/-- At a point of case B output 3 of region 0 holds what the point before left. -/
theorem before0_3_B (c : Dev nD) (t : Fin cfg0.N) (h0 : ¬t.val % 8 = 0) (h1 : 1 ≤ t.val) (d) :
    (dat0 V c).before 3 t d = (outsAt0 V c (t.val - 1) (Nat.lt_of_le_of_lt (Nat.sub_le _ _) t.isLt)).1 := by
  rw [Dat.before_out_traj _ 3 rfl (fun _ _ => rfl) (hcarry0_3 V c) t.val t rfl d,
    if_neg (by rw [notFresh0_3_B t (fun h => h0 ((hcond0_0 t).mp h)) ((hcond0_1 t).mpr h1)]; exact Bool.false_ne_true)]
  dsimp only [dat0]

/-- At a point of case B output 4 of region 0 holds what the point before left. -/
theorem before0_4_B (c : Dev nD) (t : Fin cfg0.N) (h0 : ¬t.val % 8 = 0) (h1 : 1 ≤ t.val) (d) :
    (dat0 V c).before 4 t d = (outsAt0 V c (t.val - 1) (Nat.lt_of_le_of_lt (Nat.sub_le _ _) t.isLt)).2 := by
  rw [Dat.before_out_traj _ 4 rfl (fun _ _ => rfl) (hcarry0_4 V c) t.val t rfl d,
    if_neg (by rw [notFresh0_4_B t (fun h => h0 ((hcond0_0 t).mp h)) ((hcond0_1 t).mpr h1)]; exact Bool.false_ne_true)]
  dsimp only [dat0]

/-- What the body of region 0 holds when it starts at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What the body of region 0 holds when it ends at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 800000 in
/-- The body of region 0 takes its precondition to its postcondition at every point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  have hN : t.val < 8 := lt_of_lt_of_eq t.isLt (show cfg0.N = 8 from N_0)
  by_cases h0 : t.val % 8 = 0
  · by_cases h1 : 1 ≤ t.val
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h))], after0_3]
      rw [show (dat0 V c).leavesExact 4 t = owns (c : Thread nD τ) (ms0_4 t) fullShare ((dat0 V c).after 4 t) from by
      unfold Dat.leavesExact; rw [liveAt0_4_A t ((hcond0_0 t).mpr h0) (fun h => h1 ((hcond0_1 t).mp h))], after0_4]
      rw [outsAt0_A V c t h0 h1]
      unfold out0_A_3 out0_A_4; (try dsimp only)
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _)
      unfold owns; iexists _; isplitr
      swap; · iexact H4
      ipureintro; exact View.read_writes_of_cover _ _ _ _ _ (cover0_A_4 c _ _ _ _ _ _ _ _ _ _ _ _ _ _ _ _)
  · by_cases h1 : 1 ≤ t.val
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1)], after0_3]
      rw [show (dat0 V c).leavesExact 4 t = owns (c : Thread nD τ) (ms0_4 t) fullShare ((dat0 V c).after 4 t) from by
      unfold Dat.leavesExact; rw [liveAt0_4_B t (fun h => h0 ((hcond0_0 t).mp h)) ((hcond0_1 t).mpr h1)], after0_4]
      rw [outsAt0_B V c t h0 h1]
      simp only [before0_3_B V c t h0 h1, before0_4_B V c t h0 h1]
      unfold out0_B_3 out0_B_4; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk0 V c 0 t) (iblk0 V c 1 t) (iblk0 V c 2 t) _ _).2.2 Set.univ _)
      isplitl [H0]; · iexact H0
      isplitl [H1]; · iexact H1
      isplitl [H2]; · iexact H2
      isplitl [H3]; · iexact H3
      isplitl [H4]; · iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _)
      unfold owns; iexists _; isplitr
      swap; · iexact H4
      ipureintro; exact View.read_writes_of_cover _ _ _ _ _ (cover0_B_4 c _ _ _ _ _ _ _ _ _ _ _ _ _ _ _ _ _ _)
    · exfalso; omega

/-- The program's entry for the body of region 0 is that body at the point's buffers. -/
theorem defs₀_row0 (t : Fin cfg0.N) :
    defs₀ (F := F) .tc cfg0.body (cfg0.bodyArgs t (cfg0.slots t)) = bodyAt0 t := by
  unfold defs₀; rw [Defs.onTc_tc]

/-- Region 0 meets the obligation of its proof data. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.Ideal.Region1.lean ====
/- Region 1 of the program: the second linear layer with its sums and its sums of squares. The body run at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the array contents `V` that region 1 starts with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: its buffer holds its block when the body starts at point `t`, for all proof data
    over the arrays `V` whose body leaves that block unchanged. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of region 1: its buffer holds its block when the body starts at point `t`, for all proof data
    over the arrays `V` whose body leaves that block unchanged. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 of region 1: its buffer holds its block when the body starts at point `t`, for all proof data
    over the arrays `V` whose body leaves that block unchanged. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The test of conditional 0 in the body of region 1, at grid coordinates `i`. -/
abbrev cond1_0 (i : grid1.Coords) : Prop := k1_cond1 i = 1#1

/-- That test, in terms of the number of the grid point. -/
theorem hcond1_0 : ∀ t : Fin cfg1.N, cond1_0 (grid1.coords t) ↔ t.val % 2 = 0 :=
  (fun t => by
    have ht : t.val < 2 := Nat.lt_of_lt_of_eq t.isLt N_1
    have e0 : (grid1.coords t 0).val = t.val / 1 % 2 := Pipeline.Grid.coords_val t 0 (by decide) rfl
    simp only [cond1_0, k1_cond1, e0]
    word_cmp
   : ∀ t : Fin grid1.N, cond1_0 (grid1.coords t) ↔ t.val % 2 = 0)

/-- The test of conditional 1 in the body of region 1, at grid coordinates `i`. -/
abbrev cond1_1 (i : grid1.Coords) : Prop := k1_cond2 i = 1#1

/-- That test, in terms of the number of the grid point. -/
theorem hcond1_1 : ∀ t : Fin cfg1.N, cond1_1 (grid1.coords t) ↔ t.val % 2 = 1 :=
  (fun t => by
    have ht : t.val < 2 := Nat.lt_of_lt_of_eq t.isLt N_1
    have e0 : (grid1.coords t 0).val = t.val / 1 % 2 := Pipeline.Grid.coords_val t 0 (by decide) rfl
    simp only [cond1_1, k1_cond2, e0]
    word_cmp
   : ∀ t : Fin grid1.N, cond1_1 (grid1.coords t) ↔ t.val % 2 = 1)

/-- Window 0 of region 1 is in use at every grid point. -/
theorem liveAt1_0 : ∀ t : Fin cfg1.N, cfg1.idle 0 (grid1.coords t) = false := fun _ => rfl

/-- Window 1 of region 1 is in use at every grid point. -/
theorem liveAt1_1 : ∀ t : Fin cfg1.N, cfg1.idle 1 (grid1.coords t) = false := fun _ => rfl

/-- Window 2 of region 1 is in use at every grid point. -/
theorem liveAt1_2 : ∀ t : Fin cfg1.N, cfg1.idle 2 (grid1.coords t) = false := fun _ => rfl

/-- Window 3 of region 1 is in use at every grid point. -/
theorem liveAt1_3 : ∀ t : Fin cfg1.N, cfg1.idle 3 (grid1.coords t) = false := fun _ => rfl

/-- Whether the buffer of output 4 of region 1 holds nothing stored since its last write-back, by grid position. -/
def freshTab1_4 : ℕ → Bool
  | 0 => true
  | n + 1 => (0x2 : ℕ).testBit n

/-- The table satisfies the step from one grid position to the next. -/
theorem freshTab1_4_step : ∀ t : Fin cfg1.N,
    freshTab1_4 (t.val + 1) = ((cfg1.win 4).flush t || (cfg1.idle 4 (cfg1.grid.coords t) && freshTab1_4 t.val)) := by decide +kernel

/-- The table is the configuration's own record. -/
theorem fresh1_4_eq (t : Fin cfg1.N) : cfg1.fresh 4 t.val = freshTab1_4 t.val :=
  Pipeline.Cfg.fresh_tab cfg1 4 freshTab1_4 rfl freshTab1_4_step t.val (Nat.le_of_lt t.isLt)

/-- Output 4 of region 1 is stored at every point of case A. -/
theorem liveAt1_4_A : ∀ t : Fin cfg1.N, cond1_0 (grid1.coords t) → ¬cond1_1 (grid1.coords t) → cfg1.idle 4 (grid1.coords t) = false := by decide +kernel

/-- Output 4 of region 1 is stored at every point of case B. -/
theorem liveAt1_4_B : ∀ t : Fin cfg1.N, ¬cond1_0 (grid1.coords t) → cond1_1 (grid1.coords t) → cfg1.idle 4 (grid1.coords t) = false := by decide +kernel

/-- At the points of case B the buffer of output 4 of region 1 holds what an earlier point stored. -/
theorem notFresh1_4_B : ∀ t : Fin cfg1.N, ¬cond1_0 (grid1.coords t) → cond1_1 (grid1.coords t) → cfg1.fresh 4 t.val = false := by
  intro t; rw [fresh1_4_eq t]; revert t; decide +kernel

/-- Whether the buffer of output 5 of region 1 holds nothing stored since its last write-back, by grid position. -/
def freshTab1_5 : ℕ → Bool
  | 0 => true
  | n + 1 => (0x2 : ℕ).testBit n

/-- The table satisfies the step from one grid position to the next. -/
theorem freshTab1_5_step : ∀ t : Fin cfg1.N,
    freshTab1_5 (t.val + 1) = ((cfg1.win 5).flush t || (cfg1.idle 5 (cfg1.grid.coords t) && freshTab1_5 t.val)) := by decide +kernel

/-- The table is the configuration's own record. -/
theorem fresh1_5_eq (t : Fin cfg1.N) : cfg1.fresh 5 t.val = freshTab1_5 t.val :=
  Pipeline.Cfg.fresh_tab cfg1 5 freshTab1_5 rfl freshTab1_5_step t.val (Nat.le_of_lt t.isLt)

/-- Output 5 of region 1 is stored at every point of case A. -/
theorem liveAt1_5_A : ∀ t : Fin cfg1.N, cond1_0 (grid1.coords t) → ¬cond1_1 (grid1.coords t) → cfg1.idle 5 (grid1.coords t) = false := by decide +kernel

/-- Output 5 of region 1 is stored at every point of case B. -/
theorem liveAt1_5_B : ∀ t : Fin cfg1.N, ¬cond1_0 (grid1.coords t) → cond1_1 (grid1.coords t) → cfg1.idle 5 (grid1.coords t) = false := by decide +kernel

/-- At the points of case B the buffer of output 5 of region 1 holds what an earlier point stored. -/
theorem notFresh1_5_B : ∀ t : Fin cfg1.N, ¬cond1_0 (grid1.coords t) → cond1_1 (grid1.coords t) → cfg1.fresh 5 t.val = false := by
  intro t; rw [fresh1_5_eq t]; revert t; decide +kernel

abbrev VO1_3 : View sig .tc .vmem S4096x256 .f32 := (Memref.whole cc1_stg3_0 : Memref sig .tc .vmem S4096x256 .f32).view
abbrev VO1_4 : View sig .tc .vmem S1x256 .f32 := (Memref.whole cc1_stg4_0 : Memref sig .tc .vmem S1x256 .f32).view
abbrev VO1_5 : View sig .tc .vmem S1x256 .f32 := (Memref.whole cc1_stg5_0 : Memref sig .tc .vmem S1x256 .f32).view
abbrev ms1_0 (t : Fin cfg1.N) : Memref sig .tc .vmem S4096x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)

set_option maxHeartbeats 1000000 in
/-- The body of region 1 run in case A: the pieces that it stores in each output, with the proof that it runs from
    the inputs' blocks to those pieces and leaves the inputs unchanged. -/
noncomputable def kernelRun1_A (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S4096x512 .f32) (x1 : Vec F S512x256 .f32) (x2 : Vec F S1x256 .f32) :
    Σ' (L3 : List (View.Piece (Elt F) S4096x256 .f32)), Σ' (L4 : List (View.Piece (Elt F) S1x256 .f32)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc1__linear_stats_kernel i arg1 harg1 arg2 harg2 arg3 harg3 arg4 harg4 arg5 harg5 arg6 harg6) K } := by
  refine ⟨?_, ?_, ?_, fun E K => ?run⟩
  case run =>
    simp only [cc1__linear_stats_kernel_eq_skeleton]; unfold cc1__linear_stats_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The pieces that case A of region 1 stores in output 3 cover the whole block. -/
theorem cover1_A_3 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S4096x512 .f32) (x1 : Vec F S512x256 .f32) (x2 : Vec F S1x256 .f32) (y : S4096x256.Idx) :
    ∃ pc ∈ (kernelRun1_A c i arg1 harg1 arg2 harg2 arg3 harg3 arg4 harg4 arg5 harg5 arg6 harg6 hc0 hc1 x0 x1 x2).1, y ∈ pc.1.set :=
  View.cover_of_tiledL (kernelRun1_A c i arg1 harg1 arg2 harg2 arg3 harg3 arg4 harg4 arg5 harg5 arg6 harg6 hc0 hc1 x0 x1 x2).1 S4096x256.size (by sl_kernel_rfl) y

/-- What case A of region 1 leaves in the buffer of output 3. -/
def out1_A_3 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S4096x512 .f32) (x1 : Vec F S512x256 .f32) (x2 : Vec F S1x256 .f32) : Vec F S4096x256 .f32 :=
  VO1_3.read (Elt F) (VO1_3.writes (Elt F) VO1_3.junk (kernelRun1_A c i arg1 harg1 arg2 harg2 arg3 harg3 arg4 harg4 arg5 harg5 arg6 harg6 hc0 hc1 x0 x1 x2).1)

/-- The pieces that case A of region 1 stores in output 4 cover the whole block. -/
theorem cover1_A_4 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S4096x512 .f32) (x1 : Vec F S512x256 .f32) (x2 : Vec F S1x256 .f32) (y : S1x256.Idx) :
    ∃ pc ∈ (kernelRun1_A c i arg1 harg1 arg2 harg2 arg3 harg3 arg4 harg4 arg5 harg5 arg6 harg6 hc0 hc1 x0 x1 x2).2.1, y ∈ pc.1.set :=
  View.cover_of_tiledL (kernelRun1_A c i arg1 harg1 arg2 harg2 arg3 harg3 arg4 harg4 arg5 harg5 arg6 harg6 hc0 hc1 x0 x1 x2).2.1 S1x256.size (by sl_kernel_rfl) y

/-- What case A of region 1 leaves in the buffer of output 4. -/
def out1_A_4 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S4096x512 .f32) (x1 : Vec F S512x256 .f32) (x2 : Vec F S1x256 .f32) : Vec F S1x256 .f32 :=
  VO1_4.read (Elt F) (VO1_4.writes (Elt F) VO1_4.junk (kernelRun1_A c i arg1 harg1 arg2 harg2 arg3 harg3 arg4 harg4 arg5 harg5 arg6 harg6 hc0 hc1 x0 x1 x2).2.1)

/-- The pieces that case A of region 1 stores in output 5 cover the whole block. -/
theorem cover1_A_5 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S4096x512 .f32) (x1 : Vec F S512x256 .f32) (x2 : Vec F S1x256 .f32) (y : S1x256.Idx) :
    ∃ pc ∈ (kernelRun1_A c i arg1 harg1 arg2 harg2 arg3 harg3 arg4 harg4 arg5 harg5 arg6 harg6 hc0 hc1 x0 x1 x2).2.2.1, y ∈ pc.1.set :=
  View.cover_of_tiledL (kernelRun1_A c i arg1 harg1 arg2 harg2 arg3 harg3 arg4 harg4 arg5 harg5 arg6 harg6 hc0 hc1 x0 x1 x2).2.2.1 S1x256.size (by sl_kernel_rfl) y

/-- What case A of region 1 leaves in the buffer of output 5. -/
def out1_A_5 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : cond1_0 i) (hc1 : ¬cond1_1 i)
    (x0 : Vec F S4096x512 .f32) (x1 : Vec F S512x256 .f32) (x2 : Vec F S1x256 .f32) : Vec F S1x256 .f32 :=
  VO1_5.read (Elt F) (VO1_5.writes (Elt F) VO1_5.junk (kernelRun1_A c i arg1 harg1 arg2 harg2 arg3 harg3 arg4 harg4 arg5 harg5 arg6 harg6 hc0 hc1 x0 x1 x2).2.2.1)

set_option maxHeartbeats 1000000 in
/-- The body of region 1 run in case B: the pieces that it stores in each output, with the proof that it runs from
    the inputs' blocks to those pieces and leaves the inputs unchanged. -/
noncomputable def kernelRun1_B (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S4096x512 .f32) (x1 : Vec F S512x256 .f32) (x2 : Vec F S1x256 .f32) (xo4 : Vec F S1x256 .f32) (xo5 : Vec F S1x256 .f32) :
    Σ' (L3 : List (View.Piece (Elt F) S4096x256 .f32)), Σ' (L4 : List (View.Piece (Elt F) S1x256 .f32)), { L5 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc1__linear_stats_kernel i arg1 harg1 arg2 harg2 arg3 harg3 arg4 harg4 arg5 harg5 arg6 harg6) K } := by
  refine ⟨?_, ?_, ?_, fun E K => ?run⟩
  case run =>
    simp only [cc1__linear_stats_kernel_eq_skeleton]; unfold cc1__linear_stats_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The pieces that case B of region 1 stores in output 3 cover the whole block. -/
theorem cover1_B_3 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S4096x512 .f32) (x1 : Vec F S512x256 .f32) (x2 : Vec F S1x256 .f32) (xo4 : Vec F S1x256 .f32) (xo5 : Vec F S1x256 .f32) (y : S4096x256.Idx) :
    ∃ pc ∈ (kernelRun1_B c i arg1 harg1 arg2 harg2 arg3 harg3 arg4 harg4 arg5 harg5 arg6 harg6 hc0 hc1 x0 x1 x2 xo4 xo5).1, y ∈ pc.1.set :=
  View.cover_of_tiledL (kernelRun1_B c i arg1 harg1 arg2 harg2 arg3 harg3 arg4 harg4 arg5 harg5 arg6 harg6 hc0 hc1 x0 x1 x2 xo4 xo5).1 S4096x256.size (by sl_kernel_rfl) y

/-- What case B of region 1 leaves in the buffer of output 3. -/
def out1_B_3 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S4096x512 .f32) (x1 : Vec F S512x256 .f32) (x2 : Vec F S1x256 .f32) (xo4 : Vec F S1x256 .f32) (xo5 : Vec F S1x256 .f32) : Vec F S4096x256 .f32 :=
  VO1_3.read (Elt F) (VO1_3.writes (Elt F) VO1_3.junk (kernelRun1_B c i arg1 harg1 arg2 harg2 arg3 harg3 arg4 harg4 arg5 harg5 arg6 harg6 hc0 hc1 x0 x1 x2 xo4 xo5).1)

/-- The pieces that case B of region 1 stores in output 4 cover the whole block. -/
theorem cover1_B_4 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S4096x512 .f32) (x1 : Vec F S512x256 .f32) (x2 : Vec F S1x256 .f32) (xo4 : Vec F S1x256 .f32) (xo5 : Vec F S1x256 .f32) (y : S1x256.Idx) :
    ∃ pc ∈ (kernelRun1_B c i arg1 harg1 arg2 harg2 arg3 harg3 arg4 harg4 arg5 harg5 arg6 harg6 hc0 hc1 x0 x1 x2 xo4 xo5).2.1, y ∈ pc.1.set :=
  View.cover_of_tiledL (kernelRun1_B c i arg1 harg1 arg2 harg2 arg3 harg3 arg4 harg4 arg5 harg5 arg6 harg6 hc0 hc1 x0 x1 x2 xo4 xo5).2.1 S1x256.size (by sl_kernel_rfl) y

/-- What case B of region 1 leaves in the buffer of output 4. -/
def out1_B_4 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S4096x512 .f32) (x1 : Vec F S512x256 .f32) (x2 : Vec F S1x256 .f32) (xo4 : Vec F S1x256 .f32) (xo5 : Vec F S1x256 .f32) : Vec F S1x256 .f32 :=
  VO1_4.read (Elt F) (VO1_4.writes (Elt F) VO1_4.junk (kernelRun1_B c i arg1 harg1 arg2 harg2 arg3 harg3 arg4 harg4 arg5 harg5 arg6 harg6 hc0 hc1 x0 x1 x2 xo4 xo5).2.1)

/-- The pieces that case B of region 1 stores in output 5 cover the whole block. -/
theorem cover1_B_5 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S4096x512 .f32) (x1 : Vec F S512x256 .f32) (x2 : Vec F S1x256 .f32) (xo4 : Vec F S1x256 .f32) (xo5 : Vec F S1x256 .f32) (y : S1x256.Idx) :
    ∃ pc ∈ (kernelRun1_B c i arg1 harg1 arg2 harg2 arg3 harg3 arg4 harg4 arg5 harg5 arg6 harg6 hc0 hc1 x0 x1 x2 xo4 xo5).2.2.1, y ∈ pc.1.set :=
  View.cover_of_tiledL (kernelRun1_B c i arg1 harg1 arg2 harg2 arg3 harg3 arg4 harg4 arg5 harg5 arg6 harg6 hc0 hc1 x0 x1 x2 xo4 xo5).2.2.1 S1x256.size (by sl_kernel_rfl) y

/-- What case B of region 1 leaves in the buffer of output 5. -/
def out1_B_5 (c : Dev nD) (i : grid1.Coords) (arg1 : Memref sig .tc .vmem S4096x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S4096x256 .f32) (harg4 : arg4.IsWhole) (arg5 : Memref sig .tc .vmem S1x256 .f32) (harg5 : arg5.IsWhole) (arg6 : Memref sig .tc .vmem S1x256 .f32) (harg6 : arg6.IsWhole) (hc0 : ¬cond1_0 i) (hc1 : cond1_1 i)
    (x0 : Vec F S4096x512 .f32) (x1 : Vec F S512x256 .f32) (x2 : Vec F S1x256 .f32) (xo4 : Vec F S1x256 .f32) (xo5 : Vec F S1x256 .f32) : Vec F S1x256 .f32 :=
  VO1_5.read (Elt F) (VO1_5.writes (Elt F) VO1_5.junk (kernelRun1_B c i arg1 harg1 arg2 harg2 arg3 harg3 arg4 harg4 arg5 harg5 arg6 harg6 hc0 hc1 x0 x1 x2 xo4 xo5).2.2.1)

/-- What the output buffers of region 1 hold after the body at position `n`: the first point starts the sums, each
    later point adds to what the point before left. -/
def outsAt1 (c : Dev nD) : (n : ℕ) → n < cfg1.N → Vec F S4096x256 .f32 × Vec F S1x256 .f32 × Vec F S1x256 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by have hN : n + 1 < 2 := lt_of_lt_of_eq hn (show cfg1.N = 2 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        False.elim (by have hN : n + 1 < 2 := lt_of_lt_of_eq hn (show cfg1.N = 2 from N_1); omega)

/-- The same at a point of case A. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- The same at a point of case B. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The proof data of region 1: its arrays at entry and what each window's buffer holds after each point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

/-- The arrays of region 1's proof data are the contents at entry. -/
theorem A_eq1 (c : Dev nD) (w : Fin cfg1.W) : (dat1 V c).A w = V c (Pipeline.arrRef spec1 w) := by
  dsimp only [dat1]

/-- What window 0 of region 1 holds after the body at point `t`. -/
theorem after1_0 (c : Dev nD) (t : Fin cfg1.N) : (dat1 V c).after 0 t = iblk1 V c 0 t := by dsimp only [dat1]

/-- What window 1 of region 1 holds after the body at point `t`. -/
theorem after1_1 (c : Dev nD) (t : Fin cfg1.N) : (dat1 V c).after 1 t = iblk1 V c 1 t := by dsimp only [dat1]

/-- What window 2 of region 1 holds after the body at point `t`. -/
theorem after1_2 (c : Dev nD) (t : Fin cfg1.N) : (dat1 V c).after 2 t = iblk1 V c 2 t := by dsimp only [dat1]

/-- What window 3 of region 1 holds after the body at point `t`. -/
theorem after1_3 (c : Dev nD) (t : Fin cfg1.N) : (dat1 V c).after 3 t = (outsAt1 V c t.val t.isLt).1 := by dsimp only [dat1]

/-- What window 4 of region 1 holds after the body at point `t`. -/
theorem after1_4 (c : Dev nD) (t : Fin cfg1.N) : (dat1 V c).after 4 t = (outsAt1 V c t.val t.isLt).2.1 := by dsimp only [dat1]

/-- What window 5 of region 1 holds after the body at point `t`. -/
theorem after1_5 (c : Dev nD) (t : Fin cfg1.N) : (dat1 V c).after 5 t = (outsAt1 V c t.val t.isLt).2.2 := by dsimp only [dat1]

/-- What input window 0 of region 1 holds before the body at point `t`. -/
theorem before1_0 (c : Dev nD) (t : Fin cfg1.N) (d) : (dat1 V c).before 0 t d = iblk1 V c 0 t :=
  before1_0_of V (dat1 V c) (A_eq1 V c 0) (after1_0 V c) t d

/-- What input window 1 of region 1 holds before the body at point `t`. -/
theorem before1_1 (c : Dev nD) (t : Fin cfg1.N) (d) : (dat1 V c).before 1 t d = iblk1 V c 1 t :=
  before1_1_of V (dat1 V c) (A_eq1 V c 1) (after1_1 V c) t d

/-- What input window 2 of region 1 holds before the body at point `t`. -/
theorem before1_2 (c : Dev nD) (t : Fin cfg1.N) (d) : (dat1 V c).before 2 t d = iblk1 V c 2 t :=
  before1_2_of V (dat1 V c) (A_eq1 V c 2) (after1_2 V c) t d

/-- Output 4 of region 1 keeps its contents over a point that does not store it. -/
theorem hcarry1_4 (c : Dev nD) : ∀ (t : Fin cfg1.N) (_ : t.val ≠ 0), cfg1.idle 4 (grid1.coords t) = true → cfg1.fresh 4 t.val = false →
    (dat1 V c).after 4 t = (dat1 V c).after 4 ⟨t.val - 1, by omega⟩ := by
  intro t _ hi _
  have hN : t.val < 2 := lt_of_lt_of_eq t.isLt (show cfg1.N = 2 from N_1)
  rw [after1_4, after1_4]
  by_cases h0 : t.val % 2 = 0
  · by_cases h1 : t.val % 2 = 1
    · exfalso; omega
    · rw [liveAt1_4_A t ((hcond1_0 t).mpr h0) (fun h => h1 ((hcond1_1 t).mp h))] at hi
      exact absurd hi Bool.false_ne_true
  · by_cases h1 : t.val % 2 = 1
    · rw [liveAt1_4_B t (fun h => h0 ((hcond1_0 t).mp h)) ((hcond1_1 t).mpr h1)] at hi
      exact absurd hi Bool.false_ne_true
    · exfalso; omega

/-- Output 5 of region 1 keeps its contents over a point that does not store it. -/
theorem hcarry1_5 (c : Dev nD) : ∀ (t : Fin cfg1.N) (_ : t.val ≠ 0), cfg1.idle 5 (grid1.coords t) = true → cfg1.fresh 5 t.val = false →
    (dat1 V c).after 5 t = (dat1 V c).after 5 ⟨t.val - 1, by omega⟩ := by
  intro t _ hi _
  have hN : t.val < 2 := lt_of_lt_of_eq t.isLt (show cfg1.N = 2 from N_1)
  rw [after1_5, after1_5]
  by_cases h0 : t.val % 2 = 0
  · by_cases h1 : t.val % 2 = 1
    · exfalso; omega
    · rw [liveAt1_5_A t ((hcond1_0 t).mpr h0) (fun h => h1 ((hcond1_1 t).mp h))] at hi
      exact absurd hi Bool.false_ne_true
  · by_cases h1 : t.val % 2 = 1
    · rw [liveAt1_5_B t (fun h => h0 ((hcond1_0 t).mp h)) ((hcond1_1 t).mpr h1)] at hi
      exact absurd hi Bool.false_ne_true
    · exfalso; omega

/-- At a point of case B output 4 of region 1 holds what the point before left. -/
theorem before1_4_B (c : Dev nD) (t : Fin cfg1.N) (h0 : ¬t.val % 2 = 0) (h1 : t.val % 2 = 1) (d) :
    (dat1 V c).before 4 t d = (outsAt1 V c (t.val - 1) (Nat.lt_of_le_of_lt (Nat.sub_le _ _) t.isLt)).2.1 := by
  rw [Dat.before_out_traj _ 4 rfl (fun _ _ => rfl) (hcarry1_4 V c) t.val t rfl d,
    if_neg (by rw [notFresh1_4_B t (fun h => h0 ((hcond1_0 t).mp h)) ((hcond1_1 t).mpr h1)]; exact Bool.false_ne_true)]
  dsimp only [dat1]

/-- At a point of case B output 5 of region 1 holds what the point before left. -/
theorem before1_5_B (c : Dev nD) (t : Fin cfg1.N) (h0 : ¬t.val % 2 = 0) (h1 : t.val % 2 = 1) (d) :
    (dat1 V c).before 5 t d = (outsAt1 V c (t.val - 1) (Nat.lt_of_le_of_lt (Nat.sub_le _ _) t.isLt)).2.2 := by
  rw [Dat.before_out_traj _ 5 rfl (fun _ _ => rfl) (hcarry1_5 V c) t.val t rfl d,
    if_neg (by rw [notFresh1_5_B t (fun h => h0 ((hcond1_0 t).mp h)) ((hcond1_1 t).mpr h1)]; exact Bool.false_ne_true)]
  dsimp only [dat1]

/-- What the body of region 1 holds when it starts at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- What the body of region 1 holds when it ends at point `t`. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 800000 in
/-- The body of region 1 takes its precondition to its postcondition at every point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl]
  have hN : t.val < 2 := lt_of_lt_of_eq t.isLt (show cfg1.N = 2 from N_1)
  by_cases h0 : t.val % 2 = 0
  · by_cases h1 : t.val % 2 = 1
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_A t ((hcond1_0 t).mpr h0) (fun h => h1 ((hcond1_1 t).mp h))], after1_4]
      rw [show (dat1 V c).leavesExact 5 t = owns (c : Thread nD τ) (ms1_5 t) fullShare ((dat1 V c).after 5 t) from by
      unfold Dat.leavesExact; rw [liveAt1_5_A t ((hcond1_0 t).mpr h0) (fun h => h1 ((hcond1_1 t).mp h))], after1_5]
      rw [outsAt1_A V c t h0 h1]
      unfold out1_A_3 out1_A_4 out1_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t)).2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _ _)
      isplitl [H4]
      · unfold owns; iexists _; isplitr
        swap; · iexact H4
        ipureintro; exact View.read_writes_of_cover _ _ _ _ _ (cover1_A_4 c _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _)
  · by_cases h1 : t.val % 2 = 1
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4_B t (fun h => h0 ((hcond1_0 t).mp h)) ((hcond1_1 t).mpr h1)], after1_4]
      rw [show (dat1 V c).leavesExact 5 t = owns (c : Thread nD τ) (ms1_5 t) fullShare ((dat1 V c).after 5 t) from by
      unfold Dat.leavesExact; rw [liveAt1_5_B t (fun h => h0 ((hcond1_0 t).mp h)) ((hcond1_1 t).mpr h1)], after1_5]
      rw [outsAt1_B V c t h0 h1]
      simp only [before1_4_B V c t h0 h1, before1_5_B V c t h0 h1]
      unfold out1_B_3 out1_B_4 out1_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [H4]; · iexact H4
      isplitl [H5]; · iexact H5
      iintro ⟨H0, H1, H2, ⟨%e3, H3⟩, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _ _ _)
      isplitl [H4]
      · unfold owns; iexists _; isplitr
        swap; · iexact H4
        ipureintro; exact View.read_writes_of_cover _ _ _ _ _ (cover1_B_4 c _ _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _ _)
    · exfalso; omega

/-- The program's entry for the body of region 1 is that body at the point's buffers. -/
theorem defs₀_row1 (t : Fin cfg1.N) :
    defs₀ (F := F) .tc cfg1.body (cfg1.bodyArgs t (cfg1.slots t)) = bodyAt1 t := by
  unfold defs₀; rw [Defs.onTc_tc]

/-- Region 1 meets the obligation of its proof data. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.Ideal.Region2.lean ====
/- Region 2 of the program: the fused nearest-neighbour kernel. The body run at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read from the array contents `V` that region 2 starts with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of region 2: its buffer holds its block when the body starts at point `t`, for all proof data
    over the arrays `V` whose body leaves that block unchanged. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of region 2: its buffer holds its block when the body starts at point `t`, for all proof data
    over the arrays `V` whose body leaves that block unchanged. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 of region 2: its buffer holds its block when the body starts at point `t`, for all proof data
    over the arrays `V` whose body leaves that block unchanged. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 of region 2: its buffer holds its block when the body starts at point `t`, for all proof data
    over the arrays `V` whose body leaves that block unchanged. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 of region 2: its buffer holds its block when the body starts at point `t`, for all proof data
    over the arrays `V` whose body leaves that block unchanged. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 of region 2: its buffer holds its block when the body starts at point `t`, for all proof data
    over the arrays `V` whose body leaves that block unchanged. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 of region 2: its buffer holds its block when the body starts at point `t`, for all proof data
    over the arrays `V` whose body leaves that block unchanged. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7 of region 2: its buffer holds its block when the body starts at point `t`, for all proof data
    over the arrays `V` whose body leaves that block unchanged. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8 of region 2: its buffer holds its block when the body starts at point `t`, for all proof data
    over the arrays `V` whose body leaves that block unchanged. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9 of region 2: its buffer holds its block when the body starts at point `t`, for all proof data
    over the arrays `V` whose body leaves that block unchanged. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- Input window 10 of region 2: its buffer holds its block when the body starts at point `t`, for all proof data
    over the arrays `V` whose body leaves that block unchanged. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2048x256 := Rect.unit (s := S2048x256) ![0, 0] S2048x256.size inb_S2048x256_S2048x256_0_0
abbrev r2_1 : Rect S256x256 := Rect.unit (s := S256x256) ![0, 0] S256x256.size inb_S256x256_S256x256_0_0
abbrev r2_2 : Rect S1x256 := Rect.unit (s := S1x256) ![0, 0] S1x256.size inb_S1x256_S1x256_0_0
abbrev r2_3 : Rect S1024x256 := Rect.unit (s := S1024x256) ![0, 0] S1024x256.size inb_S1024x256_S1024x256_0_0
abbrev r2_4 : Rect S2048x8 := Rect.unit (s := S2048x8) ![0, 0] S2048x8.size inb_S2048x8_S2048x8_0_0
abbrev r2_5 : Rect S1024x8 := Rect.unit (s := S1024x8) ![0, 0] S1024x8.size inb_S1024x8_S1024x8_0_0
abbrev r2_6 : Rect S1x1x2048 := Rect.unit (s := S1x1x2048) ![0, 0, 0] S1x1x2048.size inb_S1x1x2048_S1x1x2048_0_0_0

/-- A value of the fused body, from the blocks of its inputs. -/
def k2_pay97 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S2048x8 .f32 :=
  k2_pay4 (View.ld x3 r2_4)

/-- A value of the fused body, from the blocks of its inputs. -/
def k2_pay98 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S1024x8 .f32 :=
  k2_pay5 (View.ld x4 r2_5)

/-- A value of the fused body, from the blocks of its inputs. -/
def k2_pay99 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S64x2048 .f32 :=
  k2_pay37 (k2_pay97 x0 x1 x2 x3 x4 x5 x6 x7 x8 x9 x10) (k2_pay98 x0 x1 x2 x3 x4 x5 x6 x7 x8 x9 x10) (View.ld x5 r2_6)

/-- A value of the fused body, from the blocks of its inputs. -/
def k2_pay100 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S64x2048 .f32 :=
  k2_pay38 (k2_pay97 x0 x1 x2 x3 x4 x5 x6 x7 x8 x9 x10) (k2_pay98 x0 x1 x2 x3 x4 x5 x6 x7 x8 x9 x10) (View.ld x5 r2_6)

/-- A value of the fused body, from the blocks of its inputs. -/
def k2_pay101 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S64x2048 .f32 :=
  k2_pay40 (k2_pay97 x0 x1 x2 x3 x4 x5 x6 x7 x8 x9 x10) (k2_pay98 x0 x1 x2 x3 x4 x5 x6 x7 x8 x9 x10) (View.ld x5 r2_6)

/-- A value of the fused body, from the blocks of its inputs. -/
def k2_pay102 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S64x2048 .f32 :=
  k2_pay41 (k2_pay97 x0 x1 x2 x3 x4 x5 x6 x7 x8 x9 x10) (k2_pay98 x0 x1 x2 x3 x4 x5 x6 x7 x8 x9 x10) (View.ld x5 r2_6)

/-- A value of the fused body, from the blocks of its inputs. -/
def k2_pay103 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S64x2048 .f32 :=
  k2_pay42 (k2_pay97 x0 x1 x2 x3 x4 x5 x6 x7 x8 x9 x10) (k2_pay98 x0 x1 x2 x3 x4 x5 x6 x7 x8 x9 x10) (View.ld x5 r2_6)

/-- A value of the fused body, from the blocks of its inputs. -/
def k2_pay104 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S64x2048 .f32 :=
  k2_pay43 (k2_pay97 x0 x1 x2 x3 x4 x5 x6 x7 x8 x9 x10) (k2_pay98 x0 x1 x2 x3 x4 x5 x6 x7 x8 x9 x10) (View.ld x5 r2_6)

/-- A value of the fused body, from the blocks of its inputs. -/
def k2_pay105 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S4x2048 .f32 :=
  k2_pay72 (k2_pay99 x0 x1 x2 x3 x4 x5 x6 x7 x8 x9 x10) (k2_pay101 x0 x1 x2 x3 x4 x5 x6 x7 x8 x9 x10) (k2_pay103 x0 x1 x2 x3 x4 x5 x6 x7 x8 x9 x10) (k2_pay104 x0 x1 x2 x3 x4 x5 x6 x7 x8 x9 x10)

/-- A value of the fused body, from the blocks of its inputs. -/
def k2_pay106 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S4x2048 .f32 :=
  k2_pay73 (k2_pay99 x0 x1 x2 x3 x4 x5 x6 x7 x8 x9 x10) (k2_pay100 x0 x1 x2 x3 x4 x5 x6 x7 x8 x9 x10) (k2_pay101 x0 x1 x2 x3 x4 x5 x6 x7 x8 x9 x10) (k2_pay102 x0 x1 x2 x3 x4 x5 x6 x7 x8 x9 x10) (k2_pay103 x0 x1 x2 x3 x4 x5 x6 x7 x8 x9 x10) (k2_pay104 x0 x1 x2 x3 x4 x5 x6 x7 x8 x9 x10)

/-- A value of the fused body, from the blocks of its inputs. -/
def k2_pay107 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S4x2048 .f32 :=
  k2_pay75 (k2_pay99 x0 x1 x2 x3 x4 x5 x6 x7 x8 x9 x10) (k2_pay101 x0 x1 x2 x3 x4 x5 x6 x7 x8 x9 x10) (k2_pay103 x0 x1 x2 x3 x4 x5 x6 x7 x8 x9 x10) (k2_pay104 x0 x1 x2 x3 x4 x5 x6 x7 x8 x9 x10)

/-- A value of the fused body, from the blocks of its inputs. -/
def k2_pay108 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S4x2048 .f32 :=
  k2_pay76 (k2_pay99 x0 x1 x2 x3 x4 x5 x6 x7 x8 x9 x10) (k2_pay100 x0 x1 x2 x3 x4 x5 x6 x7 x8 x9 x10) (k2_pay101 x0 x1 x2 x3 x4 x5 x6 x7 x8 x9 x10) (k2_pay102 x0 x1 x2 x3 x4 x5 x6 x7 x8 x9 x10) (k2_pay103 x0 x1 x2 x3 x4 x5 x6 x7 x8 x9 x10) (k2_pay104 x0 x1 x2 x3 x4 x5 x6 x7 x8 x9 x10)

/-- A value of the fused body, from the blocks of its inputs. -/
def k2_pay109 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S4x2048 .f32 :=
  k2_pay77 (k2_pay104 x0 x1 x2 x3 x4 x5 x6 x7 x8 x9 x10)

/-- A value of the fused body, from the blocks of its inputs. -/
def k2_pay110 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : FVec F S4x2048 .f32 :=
  k2_pay78 (k2_pay104 x0 x1 x2 x3 x4 x5 x6 x7 x8 x9 x10)

/-- What the fused body leaves in its output block, from the blocks of its inputs. -/
def out2_11 (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) : Vec F S2048x256 .f32 :=
  View.canon [⟨r2_0, k2_pay1 (k2_pay2 (View.ld x0 r2_0) (View.ld x1 r2_1) (View.ld x2 r2_2) (View.ld x7 r2_2) (View.ld x8 r2_2)) (k2_pay3 (View.ld x6 r2_3) (View.ld x9 r2_2) (View.ld x10 r2_2)) (k2_pay6 (k2_pay97 x0 x1 x2 x3 x4 x5 x6 x7 x8 x9 x10) (k2_pay98 x0 x1 x2 x3 x4 x5 x6 x7 x8 x9 x10) (View.ld x5 r2_6)) (k2_pay95 (k2_pay105 x0 x1 x2 x3 x4 x5 x6 x7 x8 x9 x10) (k2_pay106 x0 x1 x2 x3 x4 x5 x6 x7 x8 x9 x10) (k2_pay107 x0 x1 x2 x3 x4 x5 x6 x7 x8 x9 x10) (k2_pay108 x0 x1 x2 x3 x4 x5 x6 x7 x8 x9 x10) (k2_pay109 x0 x1 x2 x3 x4 x5 x6 x7 x8 x9 x10) (k2_pay110 x0 x1 x2 x3 x4 x5 x6 x7 x8 x9 x10)) (k2_pay96 (k2_pay105 x0 x1 x2 x3 x4 x5 x6 x7 x8 x9 x10) (k2_pay106 x0 x1 x2 x3 x4 x5 x6 x7 x8 x9 x10) (k2_pay107 x0 x1 x2 x3 x4 x5 x6 x7 x8 x9 x10) (k2_pay108 x0 x1 x2 x3 x4 x5 x6 x7 x8 x9 x10) (k2_pay109 x0 x1 x2 x3 x4 x5 x6 x7 x8 x9 x10) (k2_pay110 x0 x1 x2 x3 x4 x5 x6 x7 x8 x9 x10))⟩]

/-- The one store of the fused body covers its output block. -/
theorem cover2_11 (p0 : Vec F S2048x256 .f32) (y : S2048x256.Idx) :
    ∃ pc ∈ ([⟨r2_0, p0⟩] : List (View.Piece (Elt F) S2048x256 .f32)), y ∈ pc.1.set :=
  View.cover_of_tiled [⟨r2_0, p0⟩] S2048x256.size (by rfl) y

set_option maxHeartbeats 1000000 in
/-- The fused body runs from the inputs' blocks to `out2_11` of them and leaves the inputs unchanged. -/
theorem sound_kernel2 (c : Dev nD) (E : Set ℕ) (i : grid2.Coords) (arg2 : Memref sig .tc .vmem S2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2048x8 .f32) (harg5 : arg5.IsWhole) (arg6 : Memref sig .tc .vmem S1024x8 .f32) (harg6 : arg6.IsWhole) (arg7 : Memref sig .tc .vmem S1x1x2048 .f32) (harg7 : arg7.IsWhole) (arg8 : Memref sig .tc .vmem S1024x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S2048x256 .f32) (harg13 : arg13.IsWhole)
    (x0 : Vec F S2048x256 .f32) (x1 : Vec F S256x256 .f32) (x2 : Vec F S1x256 .f32) (x3 : Vec F S2048x8 .f32) (x4 : Vec F S1024x8 .f32) (x5 : Vec F S1x1x2048 .f32) (x6 : Vec F S1024x256 .f32) (x7 : Vec F S1x256 .f32) (x8 : Vec F S1x256 .f32) (x9 : Vec F S1x256 .f32) (x10 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out2_11 x0 x1 x2 x3 x4 x5 x6 x7 x8 x9 x10)) -∗ K ⟨⟩))
      ⊢ wp frame (wpE (defs₀ (F := F)) Variants.none c none) E (cc2__fused_kernel i arg2 harg2 arg3 harg3 arg4 harg4 arg5 harg5 arg6 harg6 arg7 harg7 arg8 harg8 arg9 harg9 arg10 harg10 arg11 harg11 arg12 harg12 arg13 harg13) K := by
  simp only [cc2__fused_kernel_eq_skeleton]; unfold cc2__fused_kernel_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (View.read_writes_eq_canon _ _ _ (cover2_11 _)).trans ?_
  rfl

/-- The proof data of region 2: its arrays at entry and what each window's buffer holds after each point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
  Φ _ := Pipeline.ΦA spec2 c
  q _ := fullShare
  owed _ := 0

/-- The arrays of region 2's proof data are the contents at entry. -/
theorem A_eq2 (c : Dev nD) (w : Fin cfg2.W) : (dat2 V c).A w = V c (Pipeline.arrRef spec2 w) := by
  dsimp only [dat2]

/-- What window 0 of region 2 holds after the body at point `t`. -/
theorem after2_0 (c : Dev nD) (t : Fin cfg2.N) : (dat2 V c).after 0 t = iblk2 V c 0 t := by dsimp only [dat2]

/-- What window 1 of region 2 holds after the body at point `t`. -/
theorem after2_1 (c : Dev nD) (t : Fin cfg2.N) : (dat2 V c).after 1 t = iblk2 V c 1 t := by dsimp only [dat2]

/-- What window 2 of region 2 holds after the body at point `t`. -/
theorem after2_2 (c : Dev nD) (t : Fin cfg2.N) : (dat2 V c).after 2 t = iblk2 V c 2 t := by dsimp only [dat2]

/-- What window 3 of region 2 holds after the body at point `t`. -/
theorem after2_3 (c : Dev nD) (t : Fin cfg2.N) : (dat2 V c).after 3 t = iblk2 V c 3 t := by dsimp only [dat2]

/-- What window 4 of region 2 holds after the body at point `t`. -/
theorem after2_4 (c : Dev nD) (t : Fin cfg2.N) : (dat2 V c).after 4 t = iblk2 V c 4 t := by dsimp only [dat2]

/-- What window 5 of region 2 holds after the body at point `t`. -/
theorem after2_5 (c : Dev nD) (t : Fin cfg2.N) : (dat2 V c).after 5 t = iblk2 V c 5 t := by dsimp only [dat2]

/-- What window 6 of region 2 holds after the body at point `t`. -/
theorem after2_6 (c : Dev nD) (t : Fin cfg2.N) : (dat2 V c).after 6 t = iblk2 V c 6 t := by dsimp only [dat2]

/-- What window 7 of region 2 holds after the body at point `t`. -/
theorem after2_7 (c : Dev nD) (t : Fin cfg2.N) : (dat2 V c).after 7 t = iblk2 V c 7 t := by dsimp only [dat2]

/-- What window 8 of region 2 holds after the body at point `t`. -/
theorem after2_8 (c : Dev nD) (t : Fin cfg2.N) : (dat2 V c).after 8 t = iblk2 V c 8 t := by dsimp only [dat2]

/-- What window 9 of region 2 holds after the body at point `t`. -/
theorem after2_9 (c : Dev nD) (t : Fin cfg2.N) : (dat2 V c).after 9 t = iblk2 V c 9 t := by dsimp only [dat2]

/-- What window 10 of region 2 holds after the body at point `t`. -/
theorem after2_10 (c : Dev nD) (t : Fin cfg2.N) : (dat2 V c).after 10 t = iblk2 V c 10 t := by dsimp only [dat2]

/-- What window 11 of region 2 holds after the body at point `t`. -/
theorem after2_11 (c : Dev nD) (t : Fin cfg2.N) : (dat2 V c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]

/-- What input window 0 of region 2 holds before the body at point `t`. -/
theorem before2_0 (c : Dev nD) (t : Fin cfg2.N) (d) : (dat2 V c).before 0 t d = iblk2 V c 0 t :=
  before2_0_of V (dat2 V c) (A_eq2 V c 0) (after2_0 V c) t d

/-- What input window 1 of region 2 holds before the body at point `t`. -/
theorem before2_1 (c : Dev nD) (t : Fin cfg2.N) (d) : (dat2 V c).before 1 t d = iblk2 V c 1 t :=
  before2_1_of V (dat2 V c) (A_eq2 V c 1) (after2_1 V c) t d

/-- What input window 2 of region 2 holds before the body at point `t`. -/
theorem before2_2 (c : Dev nD) (t : Fin cfg2.N) (d) : (dat2 V c).before 2 t d = iblk2 V c 2 t :=
  before2_2_of V (dat2 V c) (A_eq2 V c 2) (after2_2 V c) t d

/-- What input window 3 of region 2 holds before the body at point `t`. -/
theorem before2_3 (c : Dev nD) (t : Fin cfg2.N) (d) : (dat2 V c).before 3 t d = iblk2 V c 3 t :=
  before2_3_of V (dat2 V c) (A_eq2 V c 3) (after2_3 V c) t d

/-- What input window 4 of region 2 holds before the body at point `t`. -/
theorem before2_4 (c : Dev nD) (t : Fin cfg2.N) (d) : (dat2 V c).before 4 t d = iblk2 V c 4 t :=
  before2_4_of V (dat2 V c) (A_eq2 V c 4) (after2_4 V c) t d

/-- What input window 5 of region 2 holds before the body at point `t`. -/
theorem before2_5 (c : Dev nD) (t : Fin cfg2.N) (d) : (dat2 V c).before 5 t d = iblk2 V c 5 t :=
  before2_5_of V (dat2 V c) (A_eq2 V c 5) (after2_5 V c) t d

/-- What input window 6 of region 2 holds before the body at point `t`. -/
theorem before2_6 (c : Dev nD) (t : Fin cfg2.N) (d) : (dat2 V c).before 6 t d = iblk2 V c 6 t :=
  before2_6_of V (dat2 V c) (A_eq2 V c 6) (after2_6 V c) t d

/-- What input window 7 of region 2 holds before the body at point `t`. -/
theorem before2_7 (c : Dev nD) (t : Fin cfg2.N) (d) : (dat2 V c).before 7 t d = iblk2 V c 7 t :=
  before2_7_of V (dat2 V c) (A_eq2 V c 7) (after2_7 V c) t d

/-- What input window 8 of region 2 holds before the body at point `t`. -/
theorem before2_8 (c : Dev nD) (t : Fin cfg2.N) (d) : (dat2 V c).before 8 t d = iblk2 V c 8 t :=
  before2_8_of V (dat2 V c) (A_eq2 V c 8) (after2_8 V c) t d

/-- What input window 9 of region 2 holds before the body at point `t`. -/
theorem before2_9 (c : Dev nD) (t : Fin cfg2.N) (d) : (dat2 V c).before 9 t d = iblk2 V c 9 t :=
  before2_9_of V (dat2 V c) (A_eq2 V c 9) (after2_9 V c) t d

/-- What input window 10 of region 2 holds before the body at point `t`. -/
theorem before2_10 (c : Dev nD) (t : Fin cfg2.N) (d) : (dat2 V c).before 10 t d = iblk2 V c 10 t :=
  before2_10_of V (dat2 V c) (A_eq2 V c 10) (after2_10 V c) t d

/-- What the body of region 2 holds when it starts at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d)))

/-- What the body of region 2 holds when it ends at point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t))

/-- The body of region 2 takes its precondition to its postcondition at every point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ (grid2.coords t) _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The program's entry for the body of region 2 is that body at the point's buffers. -/
theorem defs₀_row2 (t : Fin cfg2.N) :
    defs₀ (F := F) .tc cfg2.body (cfg2.bodyArgs t (cfg2.slots t)) = bodyAt2 t := by
  unfold defs₀; rw [Defs.onTc_tc]

/-- Region 2 meets the obligation of its proof data. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Gen

end
-- ==== Proof.Ideal.Run.lean ====
/- The whole program: its stretches of host operations and its three regions, from the launch to the return. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Region0
public import proofs.«01_k».proof.Proof.Ideal.Region1
public import proofs.«01_k».proof.Proof.Ideal.Region2
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments of the program. -/
abbrev argRefs : List (Ref sig .tc) := [main_arg0, main_arg1, main_arg2, main_arg3, main_arg4, main_arg5, main_arg6, main_arg7, main_arg8, main_arg9, main_arg10, main_arg11, main_arg12, main_arg13]

/-- No operation of `hostOps0` allocates a buffer. -/
theorem hostOps0_fresh : (hostOps0 : List (HloOp τ sig (Elt F))).Forall fun op => op.fresh = ∅ := by
  simp only [List.Forall]; repeat' constructor

/-- The buffers that `hostOps0` writes. -/
abbrev hostOps0_W : List (Ref sig .tc) := [main_v0, main_cst, main_v1, main_v2, main_cst_0, main_v3, main_v4, main_v5, main_cst_1, main_v6, main_v7, main_c]

/-- `hostOps0` writes no other buffer. -/
theorem hostOps0_writes : (hostOps0 : List (HloOp τ sig (Elt F))).Forall fun op => op.writes ⊆ (hostOps0_W.map (Proc.devRef (τ := τ) .tc)).toFinset :=
  StableHlo.forall_writes_sub_of_map rfl

/-- `hostOps0` writes no argument. -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor

/-- The buffers that `hostOps0_1` writes. -/
abbrev hostOps0_1_W : List (Ref sig .tc) := [main_call0_v0, main_v8]

/-- `hostOps0_1` writes no other buffer. -/
theorem hostOps0_1_writes : (hostOps0_1 : List (HloOp τ sig (Elt F))).Forall fun op => op.writes ⊆ (hostOps0_1_W.map (Proc.devRef (τ := τ) .tc)).toFinset :=
  StableHlo.forall_writes_sub_of_map rfl

/-- `hostOps0_1` writes no argument. -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor

/-- The buffers that `hostOps0_2` writes. -/
abbrev hostOps0_2_W : List (Ref sig .tc) := [main_cst_2, main_v9, main_v10, main_v11]

/-- `hostOps0_2` writes no other buffer. -/
theorem hostOps0_2_writes : (hostOps0_2 : List (HloOp τ sig (Elt F))).Forall fun op => op.writes ⊆ (hostOps0_2_W.map (Proc.devRef (τ := τ) .tc)).toFinset :=
  StableHlo.forall_writes_sub_of_map rfl

/-- `hostOps0_2` writes no argument. -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor

/-- The buffers that `hostOps1` writes. -/
abbrev hostOps1_W : List (Ref sig .tc) := [main_v13]

/-- `hostOps1` writes no other buffer. -/
theorem hostOps1_writes : (hostOps1 : List (HloOp τ sig (Elt F))).Forall fun op => op.writes ⊆ (hostOps1_W.map (Proc.devRef (τ := τ) .tc)).toFinset :=
  StableHlo.forall_writes_sub_of_map rfl

/-- `hostOps1` writes no argument. -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor

/-- The buffers that `hostOps2` writes. -/
abbrev hostOps2_W : List (Ref sig .tc) := [main_v15, main_cst_3, main_v16, main_v17, main_v18, main_cst_4, main_v19, main_v20, main_v21, main_v22, main_cst_5, main_v23, main_v24, main_v25, main_v26, main_v27, main_v28, main_v29, main_v30, main_v31, main_cst_6, main_v32, main_v33, main_v34, main_cst_7, main_v35, main_v36, main_v37, main_v38, main_cst_8, main_v39, main_v40, main_v41, main_v42, main_v43, main_v44, main_v45, main_v46, main_v47]

/-- `hostOps2` writes no other buffer. -/
theorem hostOps2_writes : (hostOps2 : List (HloOp τ sig (Elt F))).Forall fun op => op.writes ⊆ (hostOps2_W.map (Proc.devRef (τ := τ) .tc)).toFinset :=
  StableHlo.forall_writes_sub_of_map rfl

/-- `hostOps2` writes no argument. -/
theorem hostOps2_args : ∀ a ∈ argRefs, a ∉ hostOps2_W := ListAll.forall_mem_of_all_decide (by decide +kernel)

/-- The contents of the buffers after 0 of the eight stretches and regions of the program. -/
abbrev W0 : Dev nD → Valuation τ sig (Elt F) := fun c b => (s₀ m ρ).mem ((c : Dev nD), b)

/-- The arguments are unchanged there. -/
theorem W0_args (c : Dev nD) : ∀ a ∈ argRefs, W0 m ρ c (Proc.devRef .tc a) = m ((c : Thread nD τ).loc a) := fun _ _ => rfl

/-- The contents of the buffers after 1 of the eight stretches and regions of the program. -/
abbrev W1 : Dev nD → Valuation τ sig (Elt F) := fun c => StableHlo.after hostOps0 (W0 m ρ c)

/-- A buffer that the last stretch or region does not write keeps its contents there. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- The arguments are unchanged there. -/
theorem W1_args (c : Dev nD) : ∀ a ∈ argRefs, W1 m ρ c (Proc.devRef .tc a) = m ((c : Thread nD τ).loc a) :=
  fun a ha => (W1_of m ρ c a (hostOps0_args a ha)).trans (W0_args m ρ c a ha)

/-- The contents of the buffers after 2 of the eight stretches and regions of the program. -/
abbrev W2 : Dev nD → Valuation τ sig (Elt F) := fun c => StableHlo.after hostOps0_1 (W1 m ρ c)

/-- A buffer that the last stretch or region does not write keeps its contents there. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

/-- The arguments are unchanged there. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)

/-- The contents of the buffers after 3 of the eight stretches and regions of the program. -/
abbrev W3 : Dev nD → Valuation τ sig (Elt F) := fun c => StableHlo.after hostOps0_2 (W2 m ρ c)

/-- A buffer that the last stretch or region does not write keeps its contents there. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- The arguments are unchanged there. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)

/-- The same contents at the TensorCore's references. -/
abbrev V3 : (c : Dev nD) → (b : Ref sig .tc) → Buf (Elt F) ((c : Thread nD τ).loc b) := fun c b => W3 m ρ c b

/-- The contents of the buffers after 4 of the eight stretches and regions of the program. -/
def W4 (c : Dev nD) : Valuation τ sig (Elt F) :=
  Pipeline.withArrays spec0 c (W3 m ρ c) fun w => (dat0 (V3 m ρ) c).arrAt w cfg0.N

/-- An array of the region holds what the region's write-backs leave. -/
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w

/-- A buffer that is no array of the region keeps its contents there. -/
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

/-- A buffer that the last stretch or region does not write keeps its contents there. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩

/-- An argument among the arrays of region 0 is an input of it. -/
theorem argsIn0 : ∀ a ∈ argRefs, ∀ w : Fin cfg0.W, Pipeline.arrRef spec0 w = a → (cfg0.win w).isOut = false :=
  ListAll.forall_mem_of_all_decide (by decide +kernel)

/-- The arguments are unchanged there. -/
theorem W4_args (c : Dev nD) : ∀ a ∈ argRefs, W4 m ρ c (Proc.devRef .tc a) = m ((c : Thread nD τ).loc a) :=
  fun a ha => (W4_of m ρ c a (argsIn0 a ha)).trans (W3_args m ρ c a ha)

/-- The same contents at the TensorCore's references. -/
abbrev V4 : (c : Dev nD) → (b : Ref sig .tc) → Buf (Elt F) ((c : Thread nD τ).loc b) := fun c b => W4 m ρ c b

/-- The arrays of region 0 at its exit. -/
theorem hF0 (c : Dev nD) (w : Fin cfg0.W) : (dat0 (V3 m ρ) c).arrAt w cfg0.N = V4 m ρ c (Pipeline.arrRef spec0 w) :=
  (W4_arr m ρ c w).symm

/-- The other buffers at the exit of region 0. -/
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- The contents of the buffers after 5 of the eight stretches and regions of the program. -/
abbrev W5 : Dev nD → Valuation τ sig (Elt F) := fun c => StableHlo.after hostOps1 (W4 m ρ c)

/-- A buffer that the last stretch or region does not write keeps its contents there. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

/-- The arguments are unchanged there. -/
theorem W5_args (c : Dev nD) : ∀ a ∈ argRefs, W5 m ρ c (Proc.devRef .tc a) = m ((c : Thread nD τ).loc a) :=
  fun a ha => (W5_of m ρ c a (hostOps1_args a ha)).trans (W4_args m ρ c a ha)

/-- The same contents at the TensorCore's references. -/
abbrev V5 : (c : Dev nD) → (b : Ref sig .tc) → Buf (Elt F) ((c : Thread nD τ).loc b) := fun c b => W5 m ρ c b

/-- The contents of the buffers after 6 of the eight stretches and regions of the program. -/
def W6 (c : Dev nD) : Valuation τ sig (Elt F) :=
  Pipeline.withArrays spec1 c (W5 m ρ c) fun w => (dat1 (V5 m ρ) c).arrAt w cfg1.N

/-- An array of the region holds what the region's write-backs leave. -/
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w

/-- A buffer that is no array of the region keeps its contents there. -/
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

/-- A buffer that the last stretch or region does not write keeps its contents there. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩

/-- An argument among the arrays of region 1 is an input of it. -/
theorem argsIn1 : ∀ a ∈ argRefs, ∀ w : Fin cfg1.W, Pipeline.arrRef spec1 w = a → (cfg1.win w).isOut = false :=
  ListAll.forall_mem_of_all_decide (by decide +kernel)

/-- The arguments are unchanged there. -/
theorem W6_args (c : Dev nD) : ∀ a ∈ argRefs, W6 m ρ c (Proc.devRef .tc a) = m ((c : Thread nD τ).loc a) :=
  fun a ha => (W6_of m ρ c a (argsIn1 a ha)).trans (W5_args m ρ c a ha)

/-- The same contents at the TensorCore's references. -/
abbrev V6 : (c : Dev nD) → (b : Ref sig .tc) → Buf (Elt F) ((c : Thread nD τ).loc b) := fun c b => W6 m ρ c b

/-- The arrays of region 1 at its exit. -/
theorem hF1 (c : Dev nD) (w : Fin cfg1.W) : (dat1 (V5 m ρ) c).arrAt w cfg1.N = V6 m ρ c (Pipeline.arrRef spec1 w) :=
  (W6_arr m ρ c w).symm

/-- The other buffers at the exit of region 1. -/
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- The contents of the buffers after 7 of the eight stretches and regions of the program. -/
abbrev W7 : Dev nD → Valuation τ sig (Elt F) := fun c => StableHlo.after hostOps2 (W6 m ρ c)

/-- A buffer that the last stretch or region does not write keeps its contents there. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

/-- The arguments are unchanged there. -/
theorem W7_args (c : Dev nD) : ∀ a ∈ argRefs, W7 m ρ c (Proc.devRef .tc a) = m ((c : Thread nD τ).loc a) :=
  fun a ha => (W7_of m ρ c a (hostOps2_args a ha)).trans (W6_args m ρ c a ha)

/-- The same contents at the TensorCore's references. -/
abbrev V7 : (c : Dev nD) → (b : Ref sig .tc) → Buf (Elt F) ((c : Thread nD τ).loc b) := fun c b => W7 m ρ c b

/-- The contents of the buffers after 8 of the eight stretches and regions of the program. -/
def W8 (c : Dev nD) : Valuation τ sig (Elt F) :=
  Pipeline.withArrays spec2 c (W7 m ρ c) fun w => (dat2 (V7 m ρ) c).arrAt w cfg2.N

/-- An array of the region holds what the region's write-backs leave. -/
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w

/-- A buffer that is no array of the region keeps its contents there. -/
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

/-- A buffer that the last stretch or region does not write keeps its contents there. -/
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩

/-- An argument among the arrays of region 2 is an input of it. -/
theorem argsIn2 : ∀ a ∈ argRefs, ∀ w : Fin cfg2.W, Pipeline.arrRef spec2 w = a → (cfg2.win w).isOut = false :=
  ListAll.forall_mem_of_all_decide (by decide +kernel)

/-- The arguments are unchanged there. -/
theorem W8_args (c : Dev nD) : ∀ a ∈ argRefs, W8 m ρ c (Proc.devRef .tc a) = m ((c : Thread nD τ).loc a) :=
  fun a ha => (W8_of m ρ c a (argsIn2 a ha)).trans (W7_args m ρ c a ha)

/-- The same contents at the TensorCore's references. -/
abbrev V8 : (c : Dev nD) → (b : Ref sig .tc) → Buf (Elt F) ((c : Thread nD τ).loc b) := fun c b => W8 m ρ c b

/-- The arrays of region 2 at its exit. -/
theorem hF2 (c : Dev nD) (w : Fin cfg2.W) : (dat2 (V7 m ρ) c).arrAt w cfg2.N = V8 m ρ c (Pipeline.arrRef spec2 w) :=
  (W8_arr m ρ c w).symm

/-- The other buffers at the exit of region 2. -/
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- Argument `arg0` ends as it started. -/
theorem W8_main_arg0 (c : Dev nD) : W8 m ρ c (Proc.devRef .tc main_arg0) = m ((c : Thread nD τ).loc main_arg0) :=
  W8_args m ρ c main_arg0 (by decide)

/-- Argument `arg1` ends as it started. -/
theorem W8_main_arg1 (c : Dev nD) : W8 m ρ c (Proc.devRef .tc main_arg1) = m ((c : Thread nD τ).loc main_arg1) :=
  W8_args m ρ c main_arg1 (by decide)

/-- Argument `arg2` ends as it started. -/
theorem W8_main_arg2 (c : Dev nD) : W8 m ρ c (Proc.devRef .tc main_arg2) = m ((c : Thread nD τ).loc main_arg2) :=
  W8_args m ρ c main_arg2 (by decide)

/-- Argument `arg3` ends as it started. -/
theorem W8_main_arg3 (c : Dev nD) : W8 m ρ c (Proc.devRef .tc main_arg3) = m ((c : Thread nD τ).loc main_arg3) :=
  W8_args m ρ c main_arg3 (by decide)

/-- Argument `arg4` ends as it started. -/
theorem W8_main_arg4 (c : Dev nD) : W8 m ρ c (Proc.devRef .tc main_arg4) = m ((c : Thread nD τ).loc main_arg4) :=
  W8_args m ρ c main_arg4 (by decide)

/-- Argument `arg5` ends as it started. -/
theorem W8_main_arg5 (c : Dev nD) : W8 m ρ c (Proc.devRef .tc main_arg5) = m ((c : Thread nD τ).loc main_arg5) :=
  W8_args m ρ c main_arg5 (by decide)

/-- Argument `arg6` ends as it started. -/
theorem W8_main_arg6 (c : Dev nD) : W8 m ρ c (Proc.devRef .tc main_arg6) = m ((c : Thread nD τ).loc main_arg6) :=
  W8_args m ρ c main_arg6 (by decide)

/-- Argument `arg7` ends as it started. -/
theorem W8_main_arg7 (c : Dev nD) : W8 m ρ c (Proc.devRef .tc main_arg7) = m ((c : Thread nD τ).loc main_arg7) :=
  W8_args m ρ c main_arg7 (by decide)

/-- Argument `arg8` ends as it started. -/
theorem W8_main_arg8 (c : Dev nD) : W8 m ρ c (Proc.devRef .tc main_arg8) = m ((c : Thread nD τ).loc main_arg8) :=
  W8_args m ρ c main_arg8 (by decide)

/-- Argument `arg9` ends as it started. -/
theorem W8_main_arg9 (c : Dev nD) : W8 m ρ c (Proc.devRef .tc main_arg9) = m ((c : Thread nD τ).loc main_arg9) :=
  W8_args m ρ c main_arg9 (by decide)

/-- Argument `arg10` ends as it started. -/
theorem W8_main_arg10 (c : Dev nD) : W8 m ρ c (Proc.devRef .tc main_arg10) = m ((c : Thread nD τ).loc main_arg10) :=
  W8_args m ρ c main_arg10 (by decide)

/-- Argument `arg11` ends as it started. -/
theorem W8_main_arg11 (c : Dev nD) : W8 m ρ c (Proc.devRef .tc main_arg11) = m ((c : Thread nD τ).loc main_arg11) :=
  W8_args m ρ c main_arg11 (by decide)

/-- Argument `arg12` ends as it started. -/
theorem W8_main_arg12 (c : Dev nD) : W8 m ρ c (Proc.devRef .tc main_arg12) = m ((c : Thread nD τ).loc main_arg12) :=
  W8_args m ρ c main_arg12 (by decide)

/-- Argument `arg13` ends as it started. -/
theorem W8_main_arg13 (c : Dev nD) : W8 m ρ c (Proc.devRef .tc main_arg13) = m ((c : Thread nD τ).loc main_arg13) :=
  W8_args m ρ c main_arg13 (by decide)

/-- No region has prefetched tables. -/
abbrev adm : (p : Fin 3) → (pcfgs (F := F) p).Adm := fun p => (cfgs p).toPCfg_adm

/-- The proof data of the three regions, each at the contents its region starts with. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c

/-- No loop variants are needed. -/
abbrev 𝒱₀ : Variants := Variants.none

/-- No core owes another anything. -/
abbrev L : GSem nD τ sig → Finset Unit := fun _ => ∅

/-- No levels are assigned. -/
abbrev lv : GSem nD τ sig → Unit → ℕ := fun _ _ => 0

/-- What goes along with the buffers: the generator register, and that nothing is owed. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is one of those that the segments hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What the program holds at its end. -/
abbrev Tₙ (c : Dev nD) : sProp 𝕄 := iprop(StableHlo.held (c : Thread nD τ) (Pipeline.ucRefs τ sig) (W8 m ρ c) ∗ ∃ r, prngReg c r)

set_option backward.isDefEq.respectTransparency.types false in
/-- Region 0 as a segment: from the contents before it to the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: from the contents before it to the contents after it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: from the contents before it to the contents after it. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The eight segments of the program, in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]

/-- The program is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every run of the program ends with the result at the contents `W8`, every argument as it started and every
    semaphore at zero. -/
theorem runs : θ_run defs (onTc (τ := τ) (main (F := F))) ⟨m, fun _ => 0, ρ⟩ (fun r => (∀ c : Dev nD,
      r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩), funext fun g => hz g (.inr (no_unscoped g.2))⟩)

end Cert.KernelIdeal.Gen

end
-- ==== Proof.Value.Spec.lean ====
/- The mathematics that both programs compute, written over the extended reals. -/
module

public import Idealize.ShloMosaic.Lib.Pipeline.Value
public import Idealize.ShloMosaic.Lib.ValueIdx
public import Idealize.ShloMosaic.PureOps.Ideal.Laws
public import Idealize.ShloMosaic.Lib.Pointwise

@[expose] public section

noncomputable section

namespace Cert.Val

open Idealize.ShloMosaic

/-- One entry of a linear layer: row `r` of `x` times column `j` of `w`, plus the bias of column `j`. -/
def lin {n k : ℕ} (x : (⟨2, ![n, k]⟩ : Shape).Idx → EReal) (w : (⟨2, ![k, 256]⟩ : Shape).Idx → EReal)
    (b : (⟨2, ![1, 256]⟩ : Shape).Idx → EReal) (r : Fin n) (j : Fin 256) : EReal :=
  (∑ c : Fin k, x (ix2 r c) * w (ix2 c j)) + b (ix2 0 j)

/-- A function on the first `n` numbers, extended by zero to all of them. -/
def ext0 {n : ℕ} (f : Fin n → EReal) (r : ℕ) : EReal := if h : r < n then f ⟨r, h⟩ else 0

theorem ext0_of_lt {n : ℕ} (f : Fin n → EReal) (r : ℕ) (h : r < n) : ext0 f r = f ⟨r, h⟩ := dif_pos h

/-- The sum of the extension over the first `n` numbers is the sum over all indices. -/
theorem sum_range_ext0 {n : ℕ} (f : Fin n → EReal) : ∑ r ∈ Finset.range n, ext0 f r = ∑ r : Fin n, f r := by
  rw [Finset.sum_range]
  exact Finset.sum_congr rfl fun r _ => ext0_of_lt f r r.isLt

/-- The sum over the first `m + b` numbers, split into the first `m` and a block of `b`. -/
theorem sum_range_block {n : ℕ} (f : Fin n → EReal) (m b : ℕ) (h : m + b ≤ n) :
    ∑ r ∈ Finset.range (m + b), ext0 f r
      = ∑ r ∈ Finset.range m, ext0 f r + ∑ p : Fin b, f ⟨m + p.val, by have := p.isLt; omega⟩ := by
  rw [Finset.sum_range_add, Finset.sum_range (fun x => ext0 f (m + x))]
  congr 1
  exact Finset.sum_congr rfl fun p _ => ext0_of_lt f _ (by have := p.isLt; omega)

end Cert.Val
-- ==== Proof.Value.Stats0.lean ====
/- Region 0: its result arrays, as sums over all rows of the first linear layer. -/
module

public import proofs.«01_k».proof.Proof.Ideal.Region0
public import proofs.«01_k».proof.Proof.Value.Spec
public import Idealize.ShloMosaic.Lib.Pointwise

@[expose] public section

noncomputable section

namespace Cert.KernelIdeal.Val

open Idealize.ShloMosaic Idealize.ShloMosaic.TcCoe Cert.KernelIdeal Cert.KernelIdeal.Gen Cert.Val
open Idealize.SL.Sem
open Idealize.ShloMosaic.Pipeline (Dat)

/-- The linear layer of one block, read at an entry. -/
theorem k0_pay1_apply (x : Vec Ideal S4096x256 .f32) (w : Vec Ideal S256x256 .f32) (b : Vec Ideal S1x256 .f32) (i : S4096x256.Idx) :
    k0_pay1 x w b i = lin x w b (i 0) (i 1) := by
  unfold k0_pay1 lin
  pointwise

/-- The column sums of one block. -/
theorem k0_pay2_apply (x : Vec Ideal S4096x256 .f32) (w : Vec Ideal S256x256 .f32) (b : Vec Ideal S1x256 .f32) (i : S1x256.Idx) :
    k0_pay2 x w b i = ∑ r : Fin 4096, lin x w b r (i 1) := by
  unfold k0_pay2
  pointwise
  exact Finset.sum_congr rfl fun r _ => k0_pay1_apply x w b _

/-- The column sums of the squares of one block. -/
theorem k0_pay3_apply (x : Vec Ideal S4096x256 .f32) (w : Vec Ideal S256x256 .f32) (b : Vec Ideal S1x256 .f32) (i : S1x256.Idx) :
    k0_pay3 x w b i = ∑ r : Fin 4096, lin x w b r (i 1) * lin x w b r (i 1) := by
  unfold k0_pay3
  pointwise
  refine Finset.sum_congr rfl fun r _ => ?_
  rw [k0_pay1_apply]
  rfl

/-- The two offsets of a whole block are zero. -/
theorem hz0 : (![0, 0] : Fin 2 → Nat) = fun _ => 0 := funext fun a => by fin_cases a <;> rfl

/-- In case A the body stores the block's column sums in output 3. -/
theorem out0_A_3_eq (c : Dev nD) (i : grid0.Coords) (a1 : Memref sig .tc .vmem S4096x256 .f32) (h1 : a1.IsWhole) (a2 : Memref sig .tc .vmem S256x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (hc0 : cond0_0 i) (hc1 : ¬cond0_1 i)
    (x : Vec Ideal S4096x256 .f32) (w : Vec Ideal S256x256 .f32) (b : Vec Ideal S1x256 .f32) :
    out0_A_3 c i a1 h1 a2 h2 a3 h3 a4 h4 a5 h5 hc0 hc1 x w b = k0_pay2 x w b := by
  unfold out0_A_3
  rw [View.read_writes_eq_canon _ _ _ (cover0_A_3 c i a1 h1 a2 h2 a3 h3 a4 h4 a5 h5 hc0 hc1 x w b)]
  unfold kernelRun0_A
  dsimp only
  rw [View.canon_unit_zero hz0]
  simp only [View.readAt_eq_ld, h1.read_unread, h2.read_unread, h3.read_unread, View.ld_unit_zero (S := S4096x256) hz0,
    View.ld_unit_zero (S := S256x256) hz0, View.ld_unit_zero (S := S1x256) hz0, shapeCast_self]

/-- In case A the body stores the block's column sums of squares in output 4. -/
theorem out0_A_4_eq (c : Dev nD) (i : grid0.Coords) (a1 : Memref sig .tc .vmem S4096x256 .f32) (h1 : a1.IsWhole) (a2 : Memref sig .tc .vmem S256x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (hc0 : cond0_0 i) (hc1 : ¬cond0_1 i)
    (x : Vec Ideal S4096x256 .f32) (w : Vec Ideal S256x256 .f32) (b : Vec Ideal S1x256 .f32) :
    out0_A_4 c i a1 h1 a2 h2 a3 h3 a4 h4 a5 h5 hc0 hc1 x w b = k0_pay3 x w b := by
  unfold out0_A_4
  rw [View.read_writes_eq_canon _ _ _ (cover0_A_4 c i a1 h1 a2 h2 a3 h3 a4 h4 a5 h5 hc0 hc1 x w b)]
  unfold kernelRun0_A
  dsimp only
  rw [View.canon_unit_zero hz0]
  simp only [View.readAt_eq_ld, h1.read_unread, h2.read_unread, h3.read_unread, View.ld_unit_zero (S := S4096x256) hz0,
    View.ld_unit_zero (S := S256x256) hz0, View.ld_unit_zero (S := S1x256) hz0, shapeCast_self]

/-- In case B the body adds to what it finds the block's column sums in output 3. -/
theorem out0_B_3_eq (c : Dev nD) (i : grid0.Coords) (a1 : Memref sig .tc .vmem S4096x256 .f32) (h1 : a1.IsWhole) (a2 : Memref sig .tc .vmem S256x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (hc0 : ¬cond0_0 i) (hc1 : cond0_1 i)
    (x : Vec Ideal S4096x256 .f32) (w : Vec Ideal S256x256 .f32) (b : Vec Ideal S1x256 .f32) (xo3 xo4 : Vec Ideal S1x256 .f32) :
    out0_B_3 c i a1 h1 a2 h2 a3 h3 a4 h4 a5 h5 hc0 hc1 x w b xo3 xo4 = k0_pay4 x w b xo3 := by
  unfold out0_B_3
  rw [View.read_writes_eq_canon _ _ _ (cover0_B_3 c i a1 h1 a2 h2 a3 h3 a4 h4 a5 h5 hc0 hc1 x w b xo3 xo4)]
  unfold kernelRun0_B
  dsimp only
  rw [View.canon_unit_zero hz0]
  simp only [View.readAt_eq_ld, h1.read_unread, h2.read_unread, h3.read_unread, h4.read_unread, View.ld_unit_zero (S := S4096x256) hz0,
    View.ld_unit_zero (S := S256x256) hz0, View.ld_unit_zero (S := S1x256) hz0, shapeCast_self]

/-- In case B the body adds to what it finds the block's column sums of squares in output 4. -/
theorem out0_B_4_eq (c : Dev nD) (i : grid0.Coords) (a1 : Memref sig .tc .vmem S4096x256 .f32) (h1 : a1.IsWhole) (a2 : Memref sig .tc .vmem S256x256 .f32) (h2 : a2.IsWhole) (a3 : Memref sig .tc .vmem S1x256 .f32) (h3 : a3.IsWhole) (a4 : Memref sig .tc .vmem S1x256 .f32) (h4 : a4.IsWhole) (a5 : Memref sig .tc .vmem S1x256 .f32) (h5 : a5.IsWhole) (hc0 : ¬cond0_0 i) (hc1 : cond0_1 i)
    (x : Vec Ideal S4096x256 .f32) (w : Vec Ideal S256x256 .f32) (b : Vec Ideal S1x256 .f32) (xo3 xo4 : Vec Ideal S1x256 .f32) :
    out0_B_4 c i a1 h1 a2 h2 a3 h3 a4 h4 a5 h5 hc0 hc1 x w b xo3 xo4 = k0_pay5 x w b xo4 := by
  unfold out0_B_4
  rw [View.read_writes_eq_canon _ _ _ (cover0_B_4 c i a1 h1 a2 h2 a3 h3 a4 h4 a5 h5 hc0 hc1 x w b xo3 xo4)]
  unfold kernelRun0_B
  dsimp only
  rw [View.canon_unit_zero hz0]
  simp only [View.readAt_eq_ld, h1.read_unread, h2.read_unread, h3.read_unread, h5.read_unread, View.ld_unit_zero (S := S4096x256) hz0,
    View.ld_unit_zero (S := S256x256) hz0, View.ld_unit_zero (S := S1x256) hz0, shapeCast_self]

variable (V : (c : Dev nD) → (b : Ref sig .tc) → Buf (Elt Ideal) ((c : Thread nD τ).loc b))

/-- The block that window 0 reads at point `t`: rows `4096 t` onwards of the features. -/
theorem iblk0_0_eq (c : Dev nD) (t : Fin cfg0.N) (p : Fin 4096) (k : Fin 256) (h : 4096 * t.val + p.val < 32768) :
    (iblk0 V c 0 t : Vec Ideal S4096x256 .f32) (ix2 p k)
      = (V c main_arg1 : S32768x256.Idx → EReal) (ix2 ⟨4096 * t.val + p.val, h⟩ k) := by
  have hi : ∀ t : Fin grid0.N, win0_0.index t 0 = t.val ∧ win0_0.index t 1 = 0 := by decide +kernel
  unfold iblk0
  rw [View.read_apply]
  show V c main_arg1 _ = V c main_arg1 _
  congr 1
  funext a
  apply Fin.ext
  match a with
  | ⟨0, _⟩ => show win0_0.index t 0 * 4096 + 1 * p.val = 4096 * t.val + p.val; rw [(hi t).1]; omega
  | ⟨1, _⟩ => show win0_0.index t 1 * 256 + 1 * k.val = k.val; rw [(hi t).2]; omega

/-- The block that window 1 reads at every point: the whole weight matrix. -/
theorem iblk0_1_eq (c : Dev nD) (t : Fin cfg0.N) (i : S256x256.Idx) :
    (iblk0 V c 1 t : Vec Ideal S256x256 .f32) i = (V c main_arg4 : S256x256.Idx → EReal) i := by
  have hi : ∀ t : Fin grid0.N, win0_1.index t 0 = 0 ∧ win0_1.index t 1 = 0 := by decide +kernel
  unfold iblk0
  rw [View.read_apply]
  show V c main_arg4 _ = V c main_arg4 _
  congr 1
  funext a
  apply Fin.ext
  match a with
  | ⟨0, _⟩ => show win0_1.index t 0 * 256 + 1 * (i 0).val = (i 0).val; rw [(hi t).1]; omega
  | ⟨1, _⟩ => show win0_1.index t 1 * 256 + 1 * (i 1).val = (i 1).val; rw [(hi t).2]; omega

/-- The block that window 2 reads at every point: the whole bias row. -/
theorem iblk0_2_eq (c : Dev nD) (t : Fin cfg0.N) (i : S1x256.Idx) :
    (iblk0 V c 2 t : Vec Ideal S1x256 .f32) i = (V c main_v11 : S1x256.Idx → EReal) i := by
  have hi : ∀ t : Fin grid0.N, win0_2.index t 0 = 0 ∧ win0_2.index t 1 = 0 := by decide +kernel
  unfold iblk0
  rw [View.read_apply]
  show V c main_v11 _ = V c main_v11 _
  congr 1
  funext a
  apply Fin.ext
  match a with
  | ⟨0, _⟩ => show win0_2.index t 0 * 1 + 1 * (i 0).val = (i 0).val; rw [(hi t).1]; omega
  | ⟨1, _⟩ => show win0_2.index t 1 * 256 + 1 * (i 1).val = (i 1).val; rw [(hi t).2]; omega

/-- The first linear layer over all rows. -/
abbrev L0 (c : Dev nD) : Fin 32768 → Fin 256 → EReal := lin (n := 32768) (k := 256) (V c main_arg1) (V c main_arg4) (V c main_v11)

/-- The linear layer of a point's block is the whole layer at the block's rows. -/
theorem lin_iblk0 (c : Dev nD) (t : Fin cfg0.N) (p : Fin 4096) (j : Fin 256) (h : 4096 * t.val + p.val < 32768) :
    lin (n := 4096) (k := 256) (iblk0 V c 0 t) (iblk0 V c 1 t) (iblk0 V c 2 t) p j = L0 V c ⟨4096 * t.val + p.val, h⟩ j := by
  unfold L0 lin
  rw [iblk0_2_eq]
  congr 1
  exact Finset.sum_congr rfl fun k _ => by rw [iblk0_0_eq V c t p k h, iblk0_1_eq]

/-- A point's column sums, over the rows of its block. -/
theorem sums0_block (c : Dev nD) (t : Fin cfg0.N) (i : S1x256.Idx) (h : 4096 * t.val + 4096 ≤ 32768) :
    k0_pay2 (iblk0 V c 0 t) (iblk0 V c 1 t) (iblk0 V c 2 t) i
      = ∑ p : Fin 4096, L0 V c ⟨4096 * t.val + p.val, by have := p.isLt; omega⟩ (i 1) := by
  rw [k0_pay2_apply]
  exact Finset.sum_congr rfl fun p _ => lin_iblk0 V c t p (i 1) (by have := p.isLt; omega)

/-- A point's column sums of squares, over the rows of its block. -/
theorem squares0_block (c : Dev nD) (t : Fin cfg0.N) (i : S1x256.Idx) (h : 4096 * t.val + 4096 ≤ 32768) :
    k0_pay3 (iblk0 V c 0 t) (iblk0 V c 1 t) (iblk0 V c 2 t) i
      = ∑ p : Fin 4096, (fun r => L0 V c r (i 1) * L0 V c r (i 1)) ⟨4096 * t.val + p.val, by have := p.isLt; omega⟩ := by
  rw [k0_pay3_apply]
  exact Finset.sum_congr rfl fun p _ => by rw [lin_iblk0 V c t p (i 1) (by have := p.isLt; omega)]

/-- Case B's sum is what was there plus the block's column sums. -/
theorem k0_pay4_apply (x : Vec Ideal S4096x256 .f32) (w : Vec Ideal S256x256 .f32) (b acc : Vec Ideal S1x256 .f32) (i : S1x256.Idx) :
    k0_pay4 x w b acc i = acc i + k0_pay2 x w b i := by
  unfold k0_pay4
  rw [shapeCast_self]
  rfl

/-- Case B's sum of squares is what was there plus the block's column sums of squares. -/
theorem k0_pay5_apply (x : Vec Ideal S4096x256 .f32) (w : Vec Ideal S256x256 .f32) (b acc : Vec Ideal S1x256 .f32) (i : S1x256.Idx) :
    k0_pay5 x w b acc i = acc i + k0_pay3 x w b i := by
  unfold k0_pay5
  rw [shapeCast_self]
  rfl

/-- After point `n` the output holds the sums over the first `4096 (n + 1)` rows. -/
theorem sums0_at (c : Dev nD) (i : S1x256.Idx) : ∀ (n : ℕ) (h : n < cfg0.N),
    (outsAt0 V c n h).1 i = ∑ r ∈ Finset.range (4096 * n + 4096), ext0 (fun r => L0 V c r (i 1)) r
  | 0, h => by
    have hA := outsAt0_A V c ⟨0, h⟩ rfl (by dsimp only; omega)
    refine (congrFun (congrArg (fun z => z.1) hA) i).trans ?_
    dsimp only
    rw [out0_A_3_eq, sums0_block V c ⟨0, h⟩ i (by dsimp only; omega)]
    rw [sum_range_block _ (4096 * 0) 4096 (by omega), Finset.range_eq_empty_iff.mpr (by omega), Finset.sum_empty, zero_add]
  | n + 1, h => by
    have hN : cfg0.N = 8 := N_0
    have hB := outsAt0_B V c ⟨n + 1, h⟩ (by dsimp only; omega) (by dsimp only; omega)
    refine (congrFun (congrArg (fun z => z.1) hB) i).trans ?_
    dsimp only
    rw [out0_B_3_eq, k0_pay4_apply]
    refine (congrArg₂ (· + ·) (sums0_at c i n (Nat.lt_of_succ_lt h)) (sums0_block V c ⟨n + 1, h⟩ i (by dsimp only; omega))).trans ?_
    exact (sum_range_block (fun r => L0 V c r (i 1)) (4096 * (n + 1)) 4096 (by omega)).symm

/-- The sums over all rows, as contents of the result array. -/
abbrev sums0 (c : Dev nD) : S1x256.Idx → EReal := fun i => ∑ r : Fin 32768, (fun r => L0 V c r (i 1)) r

/-- The one write-back stores them. -/
theorem sums0_flushed (c : Dev nD) (t : Fin cfg0.N) (hf : (cfg0.win 3).flush t = true) :
    (dat0 V c).flushed 3 t = ((cfg0.win 3).blk t).view.read (Elt Ideal) (sums0 V c) := by
  have hN : cfg0.N = 8 := N_0
  have ht : t.val = 7 := by have := (flush0_3 t).mp hf; have := t.isLt; omega
  have hi : ∀ t : Fin grid0.N, win0_3.index t 0 = 0 ∧ win0_3.index t 1 = 0 := by decide +kernel
  have hz' : (fun a => win0_3.index t a * main_v12_0.ty.shape.size a) = fun _ => 0 := funext fun a => by
    match a with
    | ⟨0, _⟩ => show win0_3.index t 0 * _ = 0; rw [(hi t).1, Nat.zero_mul]
    | ⟨1, _⟩ => show win0_3.index t 1 * _ = 0; rw [(hi t).2, Nat.zero_mul]
  show (cfg0.win 3).cut (grid0.coords t) ((dat0 V c).after 3 t) = _
  rw [after0_3]
  refine Eq.trans ?_ (Memref.read_access_unit_zero (Elt Ideal) main_v12_0 hz' (fun a => by rw [congrFun hz' a]; simp) (sums0 V c)).symm
  funext i
  exact (sums0_at V c i t.val t.isLt).trans (by rw [ht]; exact sum_range_ext0 _)

/-- Every entry of the result array lies in the one block. -/
theorem sums0_mem (t : Fin grid0.N) (i : S1x256.Idx) : i ∈ ((View.whole main_v12_0).slice (win0_3.rect t)).set := by
  rw [View.set_slice_whole, Rect.mem_set_unit]
  intro a
  have h0 : (i 0 : Nat) < 1 := (i 0).isLt
  have h1 : (i 1 : Nat) < 256 := (i 1).isLt
  have hi : ∀ t : Fin grid0.N, win0_3.index t 0 * win0_3.size 0 = 0 ∧ win0_3.xsize (grid0.coords t) 0 = 1
    ∧ win0_3.index t 1 * win0_3.size 1 = 0 ∧ win0_3.xsize (grid0.coords t) 1 = 256 := by decide +kernel
  match a with
  | ⟨0, _⟩ => show win0_3.index t 0 * win0_3.size 0 ≤ (i 0 : Nat) ∧ (i 0 : Nat) < win0_3.index t 0 * win0_3.size 0 + win0_3.xsize (grid0.coords t) 0
              rw [(hi t).1, (hi t).2.1]; omega
  | ⟨1, _⟩ => show win0_3.index t 1 * win0_3.size 1 ≤ (i 1 : Nat) ∧ (i 1 : Nat) < win0_3.index t 1 * win0_3.size 1 + win0_3.xsize (grid0.coords t) 1
              rw [(hi t).2.2.1, (hi t).2.2.2]; omega

/-- So the result array ends holding the sums over all rows. -/
theorem sums0_final (c : Dev nD) : (dat0 V c).arrAt 3 cfg0.N = sums0 V c :=
  (dat0 V c).arrAt_eq_of_cover 3 (sums0 V c) (sums0_flushed V c) fun i =>
    ⟨⟨7, by rw [show cfg0.N = 8 from N_0]; decide⟩, (flush0_3 _).mpr rfl, sums0_mem _ i⟩

/-- After point `n` the output holds the squares over the first `4096 (n + 1)` rows. -/
theorem squares0_at (c : Dev nD) (i : S1x256.Idx) : ∀ (n : ℕ) (h : n < cfg0.N),
    (outsAt0 V c n h).2 i = ∑ r ∈ Finset.range (4096 * n + 4096), ext0 (fun r => L0 V c r (i 1) * L0 V c r (i 1)) r
  | 0, h => by
    have hA := outsAt0_A V c ⟨0, h⟩ rfl (by dsimp only; omega)
    refine (congrFun (congrArg (fun z => z.2) hA) i).trans ?_
    dsimp only
    rw [out0_A_4_eq, squares0_block V c ⟨0, h⟩ i (by dsimp only; omega)]
    rw [sum_range_block _ (4096 * 0) 4096 (by omega), Finset.range_eq_empty_iff.mpr (by omega), Finset.sum_empty, zero_add]
  | n + 1, h => by
    have hN : cfg0.N = 8 := N_0
    have hB := outsAt0_B V c ⟨n + 1, h⟩ (by dsimp only; omega) (by dsimp only; omega)
    refine (congrFun (congrArg (fun z => z.2) hB) i).trans ?_
    dsimp only
    rw [out0_B_4_eq, k0_pay5_apply]
    refine (congrArg₂ (· + ·) (squares0_at c i n (Nat.lt_of_succ_lt h)) (squares0_block V c ⟨n + 1, h⟩ i (by dsimp only; omega))).trans ?_
    exact (sum_range_block (fun r => L0 V c r (i 1) * L0 V c r (i 1)) (4096 * (n + 1)) 4096 (by omega)).symm

/-- The squares over all rows, as contents of the result array. -/
abbrev squares0 (c : Dev nD) : S1x256.Idx → EReal := fun i => ∑ r : Fin 32768, (fun r => L0 V c r (i 1) * L0 V c r (i 1)) r

/-- The one write-back stores them. -/
theorem squares0_flushed (c : Dev nD) (t : Fin cfg0.N) (hf : (cfg0.win 4).flush t = true) :
    (dat0 V c).flushed 4 t = ((cfg0.win 4).blk t).view.read (Elt Ideal) (squares0 V c) := by
  have hN : cfg0.N = 8 := N_0
  have ht : t.val = 7 := by have := (flush0_4 t).mp hf; have := t.isLt; omega
  have hi : ∀ t : Fin grid0.N, win0_4.index t 0 = 0 ∧ win0_4.index t 1 = 0 := by decide +kernel
  have hz' : (fun a => win0_4.index t a * main_v12_1.ty.shape.size a) = fun _ => 0 := funext fun a => by
    match a with
    | ⟨0, _⟩ => show win0_4.index t 0 * _ = 0; rw [(hi t).1, Nat.zero_mul]
    | ⟨1, _⟩ => show win0_4.index t 1 * _ = 0; rw [(hi t).2, Nat.zero_mul]
  show (cfg0.win 4).cut (grid0.coords t) ((dat0 V c).after 4 t) = _
  rw [after0_4]
  refine Eq.trans ?_ (Memref.read_access_unit_zero (Elt Ideal) main_v12_1 hz' (fun a => by rw [congrFun hz' a]; simp) (squares0 V c)).symm
  funext i
  exact (squares0_at V c i t.val t.isLt).trans (by rw [ht]; exact sum_range_ext0 _)

/-- Every entry of the result array lies in the one block. -/
theorem squares0_mem (t : Fin grid0.N) (i : S1x256.Idx) : i ∈ ((View.whole main_v12_1).slice (win0_4.rect t)).set := by
  rw [View.set_slice_whole, Rect.mem_set_unit]
  intro a
  have h0 : (i 0 : Nat) < 1 := (i 0).isLt
  have h1 : (i 1 : Nat) < 256 := (i 1).isLt
  have hi : ∀ t : Fin grid0.N, win0_4.index t 0 * win0_4.size 0 = 0 ∧ win0_4.xsize (grid0.coords t) 0 = 1
    ∧ win0_4.index t 1 * win0_4.size 1 = 0 ∧ win0_4.xsize (grid0.coords t) 1 = 256 := by decide +kernel
  match a with
  | ⟨0, _⟩ => show win0_4.index t 0 * win0_4.size 0 ≤ (i 0 : Nat) ∧ (i 0 : Nat) < win0_4.index t 0 * win0_4.size 0 + win0_4.xsize (grid0.coords t) 0
              rw [(hi t).1, (hi t).2.1]; omega
  | ⟨1, _⟩ => show win0_4.index t 1 * win0_4.size 1 ≤ (i 1 : Nat) ∧ (i 1 : Nat) < win0_4.index t 1 * win0_4.size 1 + win0_4.xsize (grid0.coords t) 1
              rw [(hi t).2.2.1, (hi t).2.2.2]; omega

/-- So the result array ends holding the squares over all rows. -/
theorem squares0_final (c : Dev nD) : (dat0 V c).arrAt 4 cfg0.N = squares0 V c :=
  (dat0 V c).arrAt_eq_of_cover 4 (squares0 V c) (squares0_flushed V c) fun i =>
    ⟨⟨7, by rw [show cfg0.N = 8 from N_0]; decide⟩, (flush0_4 _).mpr rfl, squares0_mem _ i⟩

end Cert.KernelIdeal.Val
-- ==== Proof.Value.Stats1.lean ====
/- Region 1: its result arrays, as sums over all rows of the second linear layer, and that layer itself. -/
module

public import proofs.«01_k».proof.Proof.Ideal.Region1
public import proofs.«01_k».proof.Proof.Value.Spec
public import Idealize.ShloMosaic.Lib.Pointwise

@[expose] public section

noncomputable section

namespace Cert.KernelIdeal.Val

open Idealize.ShloMosaic Idealize.ShloMosaic.TcCoe Cert.KernelIdeal Cert.KernelIdeal.Gen Cert.Val
open Idealize.SL.Sem
open Idealize.ShloMosaic.Pipeline (Dat)

/-- The linear layer of one block, read at an entry. -/
theorem k1_pay1_apply (x : Vec Ideal S4096x512 .f32) (w : Vec Ideal S512x256 .f32) (b : Vec Ideal S1x256 .f32) (i : S4096x256.Idx) :
    k1_pay1 x w b i = lin x w b (i 0) (i 1) := by
  unfold k1_pay1 lin
  pointwise

/-- The column sums of one block. -/
theorem k1_pay2_apply (x : Vec Ideal S4096x512 .f32) (w : Vec Ideal S512x256 .f32) (b : Vec Ideal S1x256 .f32) (i : S1x256.Idx) :
    k1_pay2 x w b i = ∑ r : Fin 4096, lin x w b r (i 1) := by
  unfold k1_pay2
  pointwise
  exact Finset.sum_congr rfl fun r _ => k1_pay1_apply x w b _

/-- The column sums of the squares of one block. -/
theorem k1_pay3_apply (x : Vec Ideal S4096x512 .f32) (w : Vec Ideal S512x256 .f32) (b : Vec Ideal S1x256 .f32) (i : S1x256.Idx) :
    k1_pay3 x w b i = ∑ r : Fin 4096, lin x w b r (i 1) * lin x w b r (i 1) := by
  unfold k1_pay3
  pointwise
  refine Finset.sum_congr rfl fun r _ => ?_
  rw [k1_pay1_apply]
  rfl

/-- The two offsets of a whole block are zero. -/
theorem hz1 : (![0, 0] : Fin 2 → Nat) = fun _ => 0 := funext fun a => by fin_cases a <;> rfl

/-- In case A the body stores the block's column sums in output 4. -/
theorem out1_A_4_eq (c : Dev nD) (i : grid1.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S4096x256 .f32) (h4 : a4.IsWhole) (a5 : Memref sig .tc .vmem S1x256 .f32) (h5 : a5.IsWhole) (a6 : Memref sig .tc .vmem S1x256 .f32) (h6 : a6.IsWhole) (hc0 : cond1_0 i) (hc1 : ¬cond1_1 i)
    (x : Vec Ideal S4096x512 .f32) (w : Vec Ideal S512x256 .f32) (b : Vec Ideal S1x256 .f32) :
    out1_A_4 c i a1 h1 a2 h2 a3 h3 a4 h4 a5 h5 a6 h6 hc0 hc1 x w b = k1_pay2 x w b := by
  unfold out1_A_4
  rw [View.read_writes_eq_canon _ _ _ (cover1_A_4 c i a1 h1 a2 h2 a3 h3 a4 h4 a5 h5 a6 h6 hc0 hc1 x w b)]
  unfold kernelRun1_A
  dsimp only
  rw [View.canon_unit_zero hz1]
  simp only [View.readAt_eq_ld, h1.read_unread, h2.read_unread, h3.read_unread, View.ld_unit_zero (S := S4096x512) hz1,
    View.ld_unit_zero (S := S512x256) hz1, View.ld_unit_zero (S := S1x256) hz1, shapeCast_self]

/-- In case A the body stores the block's column sums of squares in output 5. -/
theorem out1_A_5_eq (c : Dev nD) (i : grid1.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S4096x256 .f32) (h4 : a4.IsWhole) (a5 : Memref sig .tc .vmem S1x256 .f32) (h5 : a5.IsWhole) (a6 : Memref sig .tc .vmem S1x256 .f32) (h6 : a6.IsWhole) (hc0 : cond1_0 i) (hc1 : ¬cond1_1 i)
    (x : Vec Ideal S4096x512 .f32) (w : Vec Ideal S512x256 .f32) (b : Vec Ideal S1x256 .f32) :
    out1_A_5 c i a1 h1 a2 h2 a3 h3 a4 h4 a5 h5 a6 h6 hc0 hc1 x w b = k1_pay3 x w b := by
  unfold out1_A_5
  rw [View.read_writes_eq_canon _ _ _ (cover1_A_5 c i a1 h1 a2 h2 a3 h3 a4 h4 a5 h5 a6 h6 hc0 hc1 x w b)]
  unfold kernelRun1_A
  dsimp only
  rw [View.canon_unit_zero hz1]
  simp only [View.readAt_eq_ld, h1.read_unread, h2.read_unread, h3.read_unread, View.ld_unit_zero (S := S4096x512) hz1,
    View.ld_unit_zero (S := S512x256) hz1, View.ld_unit_zero (S := S1x256) hz1, shapeCast_self]

/-- In case A the body stores the block's layer in output 3. -/
theorem out1_A_3_eq (c : Dev nD) (i : grid1.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S4096x256 .f32) (h4 : a4.IsWhole) (a5 : Memref sig .tc .vmem S1x256 .f32) (h5 : a5.IsWhole) (a6 : Memref sig .tc .vmem S1x256 .f32) (h6 : a6.IsWhole) (hc0 : cond1_0 i) (hc1 : ¬cond1_1 i)
    (x : Vec Ideal S4096x512 .f32) (w : Vec Ideal S512x256 .f32) (b : Vec Ideal S1x256 .f32) :
    out1_A_3 c i a1 h1 a2 h2 a3 h3 a4 h4 a5 h5 a6 h6 hc0 hc1 x w b = k1_pay1 x w b := by
  unfold out1_A_3
  rw [View.read_writes_eq_canon _ _ _ (cover1_A_3 c i a1 h1 a2 h2 a3 h3 a4 h4 a5 h5 a6 h6 hc0 hc1 x w b)]
  unfold kernelRun1_A
  dsimp only
  rw [View.canon_unit_zero hz1]
  simp only [View.readAt_eq_ld, h1.read_unread, h2.read_unread, h3.read_unread, View.ld_unit_zero (S := S4096x512) hz1,
    View.ld_unit_zero (S := S512x256) hz1, View.ld_unit_zero (S := S1x256) hz1, shapeCast_self]

/-- In case B the body adds to what it finds the block's column sums in output 4. -/
theorem out1_B_4_eq (c : Dev nD) (i : grid1.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S4096x256 .f32) (h4 : a4.IsWhole) (a5 : Memref sig .tc .vmem S1x256 .f32) (h5 : a5.IsWhole) (a6 : Memref sig .tc .vmem S1x256 .f32) (h6 : a6.IsWhole) (hc0 : ¬cond1_0 i) (hc1 : cond1_1 i)
    (x : Vec Ideal S4096x512 .f32) (w : Vec Ideal S512x256 .f32) (b : Vec Ideal S1x256 .f32) (xo3 xo4 : Vec Ideal S1x256 .f32) :
    out1_B_4 c i a1 h1 a2 h2 a3 h3 a4 h4 a5 h5 a6 h6 hc0 hc1 x w b xo3 xo4 = k1_pay4 x w b xo3 := by
  unfold out1_B_4
  rw [View.read_writes_eq_canon _ _ _ (cover1_B_4 c i a1 h1 a2 h2 a3 h3 a4 h4 a5 h5 a6 h6 hc0 hc1 x w b xo3 xo4)]
  unfold kernelRun1_B
  dsimp only
  rw [View.canon_unit_zero hz1]
  simp only [View.readAt_eq_ld, h1.read_unread, h2.read_unread, h3.read_unread, h5.read_unread, View.ld_unit_zero (S := S4096x512) hz1,
    View.ld_unit_zero (S := S512x256) hz1, View.ld_unit_zero (S := S1x256) hz1, shapeCast_self]

/-- In case B the body adds to what it finds the block's column sums of squares in output 5. -/
theorem out1_B_5_eq (c : Dev nD) (i : grid1.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S4096x256 .f32) (h4 : a4.IsWhole) (a5 : Memref sig .tc .vmem S1x256 .f32) (h5 : a5.IsWhole) (a6 : Memref sig .tc .vmem S1x256 .f32) (h6 : a6.IsWhole) (hc0 : ¬cond1_0 i) (hc1 : cond1_1 i)
    (x : Vec Ideal S4096x512 .f32) (w : Vec Ideal S512x256 .f32) (b : Vec Ideal S1x256 .f32) (xo3 xo4 : Vec Ideal S1x256 .f32) :
    out1_B_5 c i a1 h1 a2 h2 a3 h3 a4 h4 a5 h5 a6 h6 hc0 hc1 x w b xo3 xo4 = k1_pay5 x w b xo4 := by
  unfold out1_B_5
  rw [View.read_writes_eq_canon _ _ _ (cover1_B_5 c i a1 h1 a2 h2 a3 h3 a4 h4 a5 h5 a6 h6 hc0 hc1 x w b xo3 xo4)]
  unfold kernelRun1_B
  dsimp only
  rw [View.canon_unit_zero hz1]
  simp only [View.readAt_eq_ld, h1.read_unread, h2.read_unread, h3.read_unread, h6.read_unread, View.ld_unit_zero (S := S4096x512) hz1,
    View.ld_unit_zero (S := S512x256) hz1, View.ld_unit_zero (S := S1x256) hz1, shapeCast_self]

/-- In case B the body stores the block's layer in output 3. -/
theorem out1_B_3_eq (c : Dev nD) (i : grid1.Coords) (a1 : Memref sig .tc .vmem S4096x512 .f32) (h1 : a1.IsWhole) (a2 : Memref sig .tc .vmem S512x256 .f32) (h2 : a2.IsWhole) (a3 : Memref sig .tc .vmem S1x256 .f32) (h3 : a3.IsWhole) (a4 : Memref sig .tc .vmem S4096x256 .f32) (h4 : a4.IsWhole) (a5 : Memref sig .tc .vmem S1x256 .f32) (h5 : a5.IsWhole) (a6 : Memref sig .tc .vmem S1x256 .f32) (h6 : a6.IsWhole) (hc0 : ¬cond1_0 i) (hc1 : cond1_1 i)
    (x : Vec Ideal S4096x512 .f32) (w : Vec Ideal S512x256 .f32) (b : Vec Ideal S1x256 .f32) (xo3 xo4 : Vec Ideal S1x256 .f32) :
    out1_B_3 c i a1 h1 a2 h2 a3 h3 a4 h4 a5 h5 a6 h6 hc0 hc1 x w b xo3 xo4 = k1_pay1 x w b := by
  unfold out1_B_3
  rw [View.read_writes_eq_canon _ _ _ (cover1_B_3 c i a1 h1 a2 h2 a3 h3 a4 h4 a5 h5 a6 h6 hc0 hc1 x w b xo3 xo4)]
  unfold kernelRun1_B
  dsimp only
  rw [View.canon_unit_zero hz1]
  simp only [View.readAt_eq_ld, h1.read_unread, h2.read_unread, h3.read_unread, View.ld_unit_zero (S := S4096x512) hz1,
    View.ld_unit_zero (S := S512x256) hz1, View.ld_unit_zero (S := S1x256) hz1, shapeCast_self]

variable (V : (c : Dev nD) → (b : Ref sig .tc) → Buf (Elt Ideal) ((c : Thread nD τ).loc b))

/-- The block that window 0 reads at point `t`: rows `4096 t` onwards of the features. -/
theorem iblk1_0_eq (c : Dev nD) (t : Fin cfg1.N) (p : Fin 4096) (k : Fin 512) (h : 4096 * t.val + p.val < 8192) :
    (iblk1 V c 0 t : Vec Ideal S4096x512 .f32) (ix2 p k)
      = (V c main_arg3 : S8192x512.Idx → EReal) (ix2 ⟨4096 * t.val + p.val, h⟩ k) := by
  have hi : ∀ t : Fin grid1.N, win1_0.index t 0 = t.val ∧ win1_0.index t 1 = 0 := by decide +kernel
  unfold iblk1
  rw [View.read_apply]
  show V c main_arg3 _ = V c main_arg3 _
  congr 1
  funext a
  apply Fin.ext
  match a with
  | ⟨0, _⟩ => show win1_0.index t 0 * 4096 + 1 * p.val = 4096 * t.val + p.val; rw [(hi t).1]; omega
  | ⟨1, _⟩ => show win1_0.index t 1 * 512 + 1 * k.val = k.val; rw [(hi t).2]; omega

/-- The block that window 1 reads at every point: the whole weight matrix. -/
theorem iblk1_1_eq (c : Dev nD) (t : Fin cfg1.N) (i : S512x256.Idx) :
    (iblk1 V c 1 t : Vec Ideal S512x256 .f32) i = (V c main_arg8 : S512x256.Idx → EReal) i := by
  have hi : ∀ t : Fin grid1.N, win1_1.index t 0 = 0 ∧ win1_1.index t 1 = 0 := by decide +kernel
  unfold iblk1
  rw [View.read_apply]
  show V c main_arg8 _ = V c main_arg8 _
  congr 1
  funext a
  apply Fin.ext
  match a with
  | ⟨0, _⟩ => show win1_1.index t 0 * 512 + 1 * (i 0).val = (i 0).val; rw [(hi t).1]; omega
  | ⟨1, _⟩ => show win1_1.index t 1 * 256 + 1 * (i 1).val = (i 1).val; rw [(hi t).2]; omega

/-- The block that window 2 reads at every point: the whole bias row. -/
theorem iblk1_2_eq (c : Dev nD) (t : Fin cfg1.N) (i : S1x256.Idx) :
    (iblk1 V c 2 t : Vec Ideal S1x256 .f32) i = (V c main_v13 : S1x256.Idx → EReal) i := by
  have hi : ∀ t : Fin grid1.N, win1_2.index t 0 = 0 ∧ win1_2.index t 1 = 0 := by decide +kernel
  unfold iblk1
  rw [View.read_apply]
  show V c main_v13 _ = V c main_v13 _
  congr 1
  funext a
  apply Fin.ext
  match a with
  | ⟨0, _⟩ => show win1_2.index t 0 * 1 + 1 * (i 0).val = (i 0).val; rw [(hi t).1]; omega
  | ⟨1, _⟩ => show win1_2.index t 1 * 256 + 1 * (i 1).val = (i 1).val; rw [(hi t).2]; omega

/-- The second linear layer over all rows. -/
abbrev L1 (c : Dev nD) : Fin 8192 → Fin 256 → EReal := lin (n := 8192) (k := 512) (V c main_arg3) (V c main_arg8) (V c main_v13)

/-- The linear layer of a point's block is the whole layer at the block's rows. -/
theorem lin_iblk1 (c : Dev nD) (t : Fin cfg1.N) (p : Fin 4096) (j : Fin 256) (h : 4096 * t.val + p.val < 8192) :
    lin (n := 4096) (k := 512) (iblk1 V c 0 t) (iblk1 V c 1 t) (iblk1 V c 2 t) p j = L1 V c ⟨4096 * t.val + p.val, h⟩ j := by
  unfold L1 lin
  rw [iblk1_2_eq]
  congr 1
  exact Finset.sum_congr rfl fun k _ => by rw [iblk1_0_eq V c t p k h, iblk1_1_eq]

/-- A point's column sums, over the rows of its block. -/
theorem sums1_block (c : Dev nD) (t : Fin cfg1.N) (i : S1x256.Idx) (h : 4096 * t.val + 4096 ≤ 8192) :
    k1_pay2 (iblk1 V c 0 t) (iblk1 V c 1 t) (iblk1 V c 2 t) i
      = ∑ p : Fin 4096, L1 V c ⟨4096 * t.val + p.val, by have := p.isLt; omega⟩ (i 1) := by
  rw [k1_pay2_apply]
  exact Finset.sum_congr rfl fun p _ => lin_iblk1 V c t p (i 1) (by have := p.isLt; omega)

/-- A point's column sums of squares, over the rows of its block. -/
theorem squares1_block (c : Dev nD) (t : Fin cfg1.N) (i : S1x256.Idx) (h : 4096 * t.val + 4096 ≤ 8192) :
    k1_pay3 (iblk1 V c 0 t) (iblk1 V c 1 t) (iblk1 V c 2 t) i
      = ∑ p : Fin 4096, (fun r => L1 V c r (i 1) * L1 V c r (i 1)) ⟨4096 * t.val + p.val, by have := p.isLt; omega⟩ := by
  rw [k1_pay3_apply]
  exact Finset.sum_congr rfl fun p _ => by rw [lin_iblk1 V c t p (i 1) (by have := p.isLt; omega)]

/-- Case B's sum is what was there plus the block's column sums. -/
theorem k1_pay4_apply (x : Vec Ideal S4096x512 .f32) (w : Vec Ideal S512x256 .f32) (b acc : Vec Ideal S1x256 .f32) (i : S1x256.Idx) :
    k1_pay4 x w b acc i = acc i + k1_pay2 x w b i := by
  unfold k1_pay4
  rw [shapeCast_self]
  rfl

/-- Case B's sum of squares is what was there plus the block's column sums of squares. -/
theorem k1_pay5_apply (x : Vec Ideal S4096x512 .f32) (w : Vec Ideal S512x256 .f32) (b acc : Vec Ideal S1x256 .f32) (i : S1x256.Idx) :
    k1_pay5 x w b acc i = acc i + k1_pay3 x w b i := by
  unfold k1_pay5
  rw [shapeCast_self]
  rfl

/-- After point `n` the output holds the sums over the first `4096 (n + 1)` rows. -/
theorem sums1_at (c : Dev nD) (i : S1x256.Idx) : ∀ (n : ℕ) (h : n < cfg1.N),
    (outsAt1 V c n h).2.1 i = ∑ r ∈ Finset.range (4096 * n + 4096), ext0 (fun r => L1 V c r (i 1)) r
  | 0, h => by
    have hA := outsAt1_A V c ⟨0, h⟩ rfl (by dsimp only; omega)
    refine (congrFun (congrArg (fun z => z.2.1) hA) i).trans ?_
    dsimp only
    rw [out1_A_4_eq, sums1_block V c ⟨0, h⟩ i (by dsimp only; omega)]
    rw [sum_range_block _ (4096 * 0) 4096 (by omega), Finset.range_eq_empty_iff.mpr (by omega), Finset.sum_empty, zero_add]
  | n + 1, h => by
    have hN : cfg1.N = 2 := N_1
    have hB := outsAt1_B V c ⟨n + 1, h⟩ (by dsimp only; omega) (by dsimp only; omega)
    refine (congrFun (congrArg (fun z => z.2.1) hB) i).trans ?_
    dsimp only
    rw [out1_B_4_eq, k1_pay4_apply]
    refine (congrArg₂ (· + ·) (sums1_at c i n (Nat.lt_of_succ_lt h)) (sums1_block V c ⟨n + 1, h⟩ i (by dsimp only; omega))).trans ?_
    exact (sum_range_block (fun r => L1 V c r (i 1)) (4096 * (n + 1)) 4096 (by omega)).symm

/-- The sums over all rows, as contents of the result array. -/
abbrev sums1 (c : Dev nD) : S1x256.Idx → EReal := fun i => ∑ r : Fin 8192, (fun r => L1 V c r (i 1)) r

/-- The one write-back stores them. -/
theorem sums1_flushed (c : Dev nD) (t : Fin cfg1.N) (hf : (cfg1.win 4).flush t = true) :
    (dat1 V c).flushed 4 t = ((cfg1.win 4).blk t).view.read (Elt Ideal) (sums1 V c) := by
  have hN : cfg1.N = 2 := N_1
  have ht : t.val = 1 := by have := (flush1_4 t).mp hf; have := t.isLt; omega
  have hi : ∀ t : Fin grid1.N, win1_4.index t 0 = 0 ∧ win1_4.index t 1 = 0 := by decide +kernel
  have hz' : (fun a => win1_4.index t a * main_v14_1.ty.shape.size a) = fun _ => 0 := funext fun a => by
    match a with
    | ⟨0, _⟩ => show win1_4.index t 0 * _ = 0; rw [(hi t).1, Nat.zero_mul]
    | ⟨1, _⟩ => show win1_4.index t 1 * _ = 0; rw [(hi t).2, Nat.zero_mul]
  show (cfg1.win 4).cut (grid1.coords t) ((dat1 V c).after 4 t) = _
  rw [after1_4]
  refine Eq.trans ?_ (Memref.read_access_unit_zero (Elt Ideal) main_v14_1 hz' (fun a => by rw [congrFun hz' a]; simp) (sums1 V c)).symm
  funext i
  exact (sums1_at V c i t.val t.isLt).trans (by rw [ht]; exact sum_range_ext0 _)

/-- Every entry of the result array lies in the one block. -/
theorem sums1_mem (t : Fin grid1.N) (i : S1x256.Idx) : i ∈ ((View.whole main_v14_1).slice (win1_4.rect t)).set := by
  rw [View.set_slice_whole, Rect.mem_set_unit]
  intro a
  have h0 : (i 0 : Nat) < 1 := (i 0).isLt
  have h1 : (i 1 : Nat) < 256 := (i 1).isLt
  have hi : ∀ t : Fin grid1.N, win1_4.index t 0 * win1_4.size 0 = 0 ∧ win1_4.xsize (grid1.coords t) 0 = 1
    ∧ win1_4.index t 1 * win1_4.size 1 = 0 ∧ win1_4.xsize (grid1.coords t) 1 = 256 := by decide +kernel
  match a with
  | ⟨0, _⟩ => show win1_4.index t 0 * win1_4.size 0 ≤ (i 0 : Nat) ∧ (i 0 : Nat) < win1_4.index t 0 * win1_4.size 0 + win1_4.xsize (grid1.coords t) 0
              rw [(hi t).1, (hi t).2.1]; omega
  | ⟨1, _⟩ => show win1_4.index t 1 * win1_4.size 1 ≤ (i 1 : Nat) ∧ (i 1 : Nat) < win1_4.index t 1 * win1_4.size 1 + win1_4.xsize (grid1.coords t) 1
              rw [(hi t).2.2.1, (hi t).2.2.2]; omega

/-- So the result array ends holding the sums over all rows. -/
theorem sums1_final (c : Dev nD) : (dat1 V c).arrAt 4 cfg1.N = sums1 V c :=
  (dat1 V c).arrAt_eq_of_cover 4 (sums1 V c) (sums1_flushed V c) fun i =>
    ⟨⟨1, by rw [show cfg1.N = 2 from N_1]; decide⟩, (flush1_4 _).mpr rfl, sums1_mem _ i⟩

/-- After point `n` the output holds the squares over the first `4096 (n + 1)` rows. -/
theorem squares1_at (c : Dev nD) (i : S1x256.Idx) : ∀ (n : ℕ) (h : n < cfg1.N),
    (outsAt1 V c n h).2.2 i = ∑ r ∈ Finset.range (4096 * n + 4096), ext0 (fun r => L1 V c r (i 1) * L1 V c r (i 1)) r
  | 0, h => by
    have hA := outsAt1_A V c ⟨0, h⟩ rfl (by dsimp only; omega)
    refine (congrFun (congrArg (fun z => z.2.2) hA) i).trans ?_
    dsimp only
    rw [out1_A_5_eq, squares1_block V c ⟨0, h⟩ i (by dsimp only; omega)]
    rw [sum_range_block _ (4096 * 0) 4096 (by omega), Finset.range_eq_empty_iff.mpr (by omega), Finset.sum_empty, zero_add]
  | n + 1, h => by
    have hN : cfg1.N = 2 := N_1
    have hB := outsAt1_B V c ⟨n + 1, h⟩ (by dsimp only; omega) (by dsimp only; omega)
    refine (congrFun (congrArg (fun z => z.2.2) hB) i).trans ?_
    dsimp only
    rw [out1_B_5_eq, k1_pay5_apply]
    refine (congrArg₂ (· + ·) (squares1_at c i n (Nat.lt_of_succ_lt h)) (squares1_block V c ⟨n + 1, h⟩ i (by dsimp only; omega))).trans ?_
    exact (sum_range_block (fun r => L1 V c r (i 1) * L1 V c r (i 1)) (4096 * (n + 1)) 4096 (by omega)).symm

/-- The squares over all rows, as contents of the result array. -/
abbrev squares1 (c : Dev nD) : S1x256.Idx → EReal := fun i => ∑ r : Fin 8192, (fun r => L1 V c r (i 1) * L1 V c r (i 1)) r

/-- The one write-back stores them. -/
theorem squares1_flushed (c : Dev nD) (t : Fin cfg1.N) (hf : (cfg1.win 5).flush t = true) :
    (dat1 V c).flushed 5 t = ((cfg1.win 5).blk t).view.read (Elt Ideal) (squares1 V c) := by
  have hN : cfg1.N = 2 := N_1
  have ht : t.val = 1 := by have := (flush1_5 t).mp hf; have := t.isLt; omega
  have hi : ∀ t : Fin grid1.N, win1_5.index t 0 = 0 ∧ win1_5.index t 1 = 0 := by decide +kernel
  have hz' : (fun a => win1_5.index t a * main_v14_2.ty.shape.size a) = fun _ => 0 := funext fun a => by
    match a with
    | ⟨0, _⟩ => show win1_5.index t 0 * _ = 0; rw [(hi t).1, Nat.zero_mul]
    | ⟨1, _⟩ => show win1_5.index t 1 * _ = 0; rw [(hi t).2, Nat.zero_mul]
  show (cfg1.win 5).cut (grid1.coords t) ((dat1 V c).after 5 t) = _
  rw [after1_5]
  refine Eq.trans ?_ (Memref.read_access_unit_zero (Elt Ideal) main_v14_2 hz' (fun a => by rw [congrFun hz' a]; simp) (squares1 V c)).symm
  funext i
  exact (squares1_at V c i t.val t.isLt).trans (by rw [ht]; exact sum_range_ext0 _)

/-- Every entry of the result array lies in the one block. -/
theorem squares1_mem (t : Fin grid1.N) (i : S1x256.Idx) : i ∈ ((View.whole main_v14_2).slice (win1_5.rect t)).set := by
  rw [View.set_slice_whole, Rect.mem_set_unit]
  intro a
  have h0 : (i 0 : Nat) < 1 := (i 0).isLt
  have h1 : (i 1 : Nat) < 256 := (i 1).isLt
  have hi : ∀ t : Fin grid1.N, win1_5.index t 0 * win1_5.size 0 = 0 ∧ win1_5.xsize (grid1.coords t) 0 = 1
    ∧ win1_5.index t 1 * win1_5.size 1 = 0 ∧ win1_5.xsize (grid1.coords t) 1 = 256 := by decide +kernel
  match a with
  | ⟨0, _⟩ => show win1_5.index t 0 * win1_5.size 0 ≤ (i 0 : Nat) ∧ (i 0 : Nat) < win1_5.index t 0 * win1_5.size 0 + win1_5.xsize (grid1.coords t) 0
              rw [(hi t).1, (hi t).2.1]; omega
  | ⟨1, _⟩ => show win1_5.index t 1 * win1_5.size 1 ≤ (i 1 : Nat) ∧ (i 1 : Nat) < win1_5.index t 1 * win1_5.size 1 + win1_5.xsize (grid1.coords t) 1
              rw [(hi t).2.2.1, (hi t).2.2.2]; omega

/-- So the result array ends holding the squares over all rows. -/
theorem squares1_final (c : Dev nD) : (dat1 V c).arrAt 5 cfg1.N = squares1 V c :=
  (dat1 V c).arrAt_eq_of_cover 5 (squares1 V c) (squares1_flushed V c) fun i =>
    ⟨⟨1, by rw [show cfg1.N = 2 from N_1]; decide⟩, (flush1_5 _).mpr rfl, squares1_mem _ i⟩

/-- At every point output 3 holds the linear layer of the point's block. -/
theorem layer1_at (c : Dev nD) (t : Fin cfg1.N) (p : Fin 4096) (j : Fin 256) (h : 4096 * t.val + p.val < 8192) :
    (outsAt1 V c t.val t.isLt).1 (ix2 p j) = L1 V c ⟨4096 * t.val + p.val, h⟩ j := by
  have hN : cfg1.N = 2 := N_1
  by_cases h0 : t.val = 0
  · rw [outsAt1_A V c t (by omega) (by omega)]
    dsimp only
    rw [out1_A_3_eq, k1_pay1_apply]
    exact lin_iblk1 V c t p j h
  · rw [outsAt1_B V c t (by have := t.isLt; omega) (by omega)]
    dsimp only
    rw [out1_B_3_eq, k1_pay1_apply]
    exact lin_iblk1 V c t p j h

/-- The second linear layer, as contents of the result array. -/
abbrev layer1 (c : Dev nD) : S8192x256.Idx → EReal := fun i => L1 V c (i 0) (i 1)

/-- The rows and columns of the block that a point writes back. -/
theorem layer1_index : ∀ t : Fin grid1.N, win1_3.index t 0 = t.val ∧ win1_3.index t 1 = 0
    ∧ win1_3.xsize (grid1.coords t) 0 = 4096 ∧ win1_3.xsize (grid1.coords t) 1 = 256 := by decide +kernel

/-- Every point writes back its block of the layer. -/
theorem layer1_flushed (c : Dev nD) (t : Fin cfg1.N) (hf : (cfg1.win 3).flush t = true) :
    (dat1 V c).flushed 3 t = ((cfg1.win 3).blk t).view.read (Elt Ideal) (layer1 V c) := by
  have hN : cfg1.N = 2 := N_1
  have htl := t.isLt
  show (cfg1.win 3).cut (grid1.coords t) ((dat1 V c).after 3 t) = _
  rw [after1_3]
  funext j
  rw [View.read_apply]
  have hp : (j 0 : Nat) < 4096 := (j 0).isLt
  have hj : (j 1 : Nat) < 256 := (j 1).isLt
  show (outsAt1 V c t.val t.isLt).1 j = layer1 V c _
  have hr : 4096 * t.val + (j 0).val < 8192 := by omega
  have e : j = ix2 (n0 := 4096) (n1 := 256) ⟨(j 0).val, hp⟩ ⟨(j 1).val, hj⟩ := by
    funext a; match a with | ⟨0, _⟩ => rfl | ⟨1, _⟩ => rfl
  refine ((congrArg (outsAt1 V c t.val t.isLt).1 e).trans (layer1_at V c t ⟨(j 0).val, hp⟩ ⟨(j 1).val, hj⟩ hr)).trans ?_
  show L1 V c _ _ = L1 V c _ _
  congr 1 <;> apply Fin.ext
  · show 4096 * t.val + (j 0).val = win1_3.index t 0 * 4096 + 1 * (j 0).val
    rw [(layer1_index t).1]; omega
  · show (j 1).val = win1_3.index t 1 * 256 + 1 * (j 1).val
    rw [(layer1_index t).2.1]; omega

/-- Every entry of the result array lies in the block of its row. -/
theorem layer1_mem (t : Fin grid1.N) (i : S8192x256.Idx) (ht : t.val = (i 0 : Nat) / 4096) :
    i ∈ ((View.whole main_v14_0).slice (win1_3.rect t)).set := by
  rw [View.set_slice_whole, Rect.mem_set_unit]
  obtain ⟨i0, i1, x0, x1⟩ := layer1_index t
  have h1 : (i 1 : Nat) < 256 := (i 1).isLt
  intro a
  match a with
  | ⟨0, _⟩ => show win1_3.index t 0 * 4096 ≤ (i 0 : Nat) ∧ (i 0 : Nat) < win1_3.index t 0 * 4096 + win1_3.xsize (grid1.coords t) 0
              rw [x0, i0]; omega
  | ⟨1, _⟩ => show win1_3.index t 1 * 256 ≤ (i 1 : Nat) ∧ (i 1 : Nat) < win1_3.index t 1 * 256 + win1_3.xsize (grid1.coords t) 1
              rw [x1, i1]; omega

/-- So the result array ends holding the second linear layer. -/
theorem layer1_final (c : Dev nD) : (dat1 V c).arrAt 3 cfg1.N = layer1 V c :=
  (dat1 V c).arrAt_eq_of_cover 3 (layer1 V c) (layer1_flushed V c) fun i =>
    have h0 : ((show S8192x256.Idx from i) 0 : Nat) < 8192 := ((show S8192x256.Idx from i) 0).isLt
    ⟨⟨((show S8192x256.Idx from i) 0 : Nat) / 4096, by rw [show cfg1.N = 2 from N_1]; omega⟩, flush1_3 _, layer1_mem _ i rfl⟩

end Cert.KernelIdeal.Val
-- ==== Proof.Value.Top.lean ====
/- The three smallest of a family of numbers: how a triple is described, merged, and read off a sorted family. -/
module

public import Idealize.ShloMosaic.Lib.Pipeline.Value
public import Mathlib.Data.EReal.Basic

@[expose] public section

noncomputable section

namespace Cert.Val

/-- One if the proposition holds, zero if not. -/
def ind (p : Prop) [Decidable p] : ℕ := if p then 1 else 0

theorem ind_le (p : Prop) [Decidable p] : ind p ≤ 1 := by unfold ind; split <;> omega

theorem one_le_ind (p : Prop) [Decidable p] : 1 ≤ ind p ↔ p := by
  unfold ind; split <;> simp_all

/-- `a1`, `a2`, `a3` are the three smallest of a family, of which `c t` members are at most `t`. -/
def Top3 (a1 a2 a3 : EReal) (c : EReal → ℕ) : Prop :=
  ∀ t, (a1 ≤ t ↔ 1 ≤ c t) ∧ (a2 ≤ t ↔ 2 ≤ c t) ∧ (a3 ≤ t ↔ 3 ≤ c t)

/-- `a1`, `a2` are the members of a family of two, of which `c t` are at most `t`, in order. -/
def Top2 (a1 a2 : EReal) (c : EReal → ℕ) : Prop :=
  ∀ t, (a1 ≤ t ↔ 1 ≤ c t) ∧ (a2 ≤ t ↔ 2 ≤ c t) ∧ c t ≤ 2

/-- Two numbers in order. -/
theorem top2_pair (x y : EReal) : Top2 (min x y) (max x y) (fun t => ind (x ≤ t) + ind (y ≤ t)) := fun t => by
  have hx := one_le_ind (x ≤ t)
  have hy := one_le_ind (y ≤ t)
  have hx' := ind_le (x ≤ t)
  have hy' := ind_le (y ≤ t)
  rw [min_le_iff, max_le_iff, ← hx, ← hy]
  dsimp only
  omega

/-- Two ordered pairs merge to the three smallest of the four. -/
theorem Top2.merge {a1 a2 b1 b2 : EReal} {c e : EReal → ℕ} (ha : Top2 a1 a2 c) (hb : Top2 b1 b2 e) :
    Top3 (min a1 b1) (min (max a1 b1) (min a2 b2)) (min (max (min a2 b2) (max a1 b1)) (max a2 b2)) (fun t => c t + e t) :=
  fun t => by
    obtain ⟨p1, p2, p3⟩ := ha t
    obtain ⟨q1, q2, q3⟩ := hb t
    simp only [min_le_iff, max_le_iff, p1, p2, q1, q2]
    omega

/-- Two triples merge to the three smallest of both families. -/
theorem Top3.merge {a1 a2 a3 b1 b2 b3 : EReal} {c e : EReal → ℕ} (ha : Top3 a1 a2 a3 c) (hb : Top3 b1 b2 b3 e) :
    Top3 (min a1 b1) (min (max a1 b1) (min a2 b2))
      (min (min (max (min a2 b2) (max a1 b1)) (max a2 b2)) (min a3 b3)) (fun t => c t + e t) :=
  fun t => by
    obtain ⟨p1, p2, p3⟩ := ha t
    obtain ⟨q1, q2, q3⟩ := hb t
    simp only [min_le_iff, max_le_iff, p1, p2, p3, q1, q2, q3]
    omega

/-- How many members of the family `d` are at most `t`. -/
def count {n : ℕ} (d : Fin n → EReal) (t : EReal) : ℕ := ∑ j : Fin n, ind (d j ≤ t)

/-- In a family that `σ` sorts, the member in place `m` is at most `t` exactly if more than `m` members are. -/
theorem sorted_le_iff {n : ℕ} (d : Fin n → EReal) (σ : Fin n → Fin n) (hσ : Function.Bijective σ)
    (hm : ∀ i j, i < j → d (σ i) ≤ d (σ j)) (m : Fin n) (t : EReal) : d (σ m) ≤ t ↔ m.val + 1 ≤ count d t := by
  have hc : count d t = (Finset.univ.filter fun k => d (σ k) ≤ t).card := by
    rw [Finset.card_filter]
    exact (hσ.sum_comp (fun j => ind (d j ≤ t))).symm
  rw [hc]
  constructor
  · intro h
    rw [← Fin.card_Iic m]
    refine Finset.card_le_card fun k hk => ?_
    rw [Finset.mem_Iic] at hk
    rw [Finset.mem_filter]
    refine ⟨Finset.mem_univ _, ?_⟩
    rcases hk.lt_or_eq with hk | rfl
    · exact (hm k m hk).trans h
    · exact h
  · intro h
    by_contra hn
    have : (Finset.univ.filter fun k => d (σ k) ≤ t).card ≤ (Finset.Iio m).card := by
      refine Finset.card_le_card fun k hk => ?_
      rw [Finset.mem_filter] at hk
      rw [Finset.mem_Iio]
      by_contra hk'
      rcases (not_lt.mp hk').lt_or_eq with hk' | rfl
      · exact hn ((hm m k hk').trans hk.2)
      · exact hn hk.2
    rw [Fin.card_Iio] at this
    omega

/-- The three smallest of a family that `σ` sorts are its members in the places 0, 1 and 2. -/
theorem Top3.eq_sorted {n : ℕ} {a1 a2 a3 : EReal} {d : Fin n → EReal} (h : Top3 a1 a2 a3 (count d)) (hn : 3 < n)
    (σ : Fin n → Fin n) (hσ : Function.Bijective σ) (hm : ∀ i j, i < j → d (σ i) ≤ d (σ j)) :
    a1 = d (σ ⟨0, by omega⟩) ∧ a2 = d (σ ⟨1, by omega⟩) ∧ a3 = d (σ ⟨2, by omega⟩) :=
  ⟨eq_of_forall_ge_iff fun t => ((h t).1).trans (sorted_le_iff d σ hσ hm ⟨0, by omega⟩ t).symm,
    eq_of_forall_ge_iff fun t => ((h t).2.1).trans (sorted_le_iff d σ hσ hm ⟨1, by omega⟩ t).symm,
    eq_of_forall_ge_iff fun t => ((h t).2.2).trans (sorted_le_iff d σ hσ hm ⟨2, by omega⟩ t).symm⟩

/-- If the fourth member in order is larger than the third, then a sum over the members that are at most the third
    is the sum over the first three. -/
theorem sum_nearest {n : ℕ} (d G : Fin n → EReal) (hn : 3 < n) (σ : Fin n → Fin n) (hσ : Function.Bijective σ)
    (hm : ∀ i j, i < j → d (σ i) ≤ d (σ j)) (hgap : d (σ ⟨2, by omega⟩) < d (σ ⟨3, hn⟩)) :
    (∑ j, if d j ≤ d (σ ⟨2, by omega⟩) then G j else 0)
      = ∑ k : Fin 3, G (σ ⟨k.val, by omega⟩) := by
  rw [← hσ.sum_comp, ← Finset.sum_filter]
  have e : (Finset.univ.filter fun k => d (σ k) ≤ d (σ ⟨2, by omega⟩))
      = Finset.univ.map ⟨fun k : Fin 3 => (⟨k.val, by omega⟩ : Fin n), fun a b hab => Fin.ext (by simpa using hab)⟩ := by
    ext k
    simp only [Finset.mem_filter, Finset.mem_univ, true_and, Finset.mem_map, Function.Embedding.coeFn_mk]
    constructor
    · intro hk
      by_cases h3 : k.val < 3
      · exact ⟨⟨k.val, h3⟩, rfl⟩
      · exfalso
        have : d (σ ⟨3, hn⟩) ≤ d (σ k) := by
          rcases (show (⟨3, hn⟩ : Fin n) ≤ k from Fin.le_def.mpr (by dsimp only; omega)).lt_or_eq with h | h
          · exact hm _ _ h
          · rw [h]
        exact absurd (this.trans hk) (not_le.mpr hgap)
    · rintro ⟨a, rfl⟩
      rcases (show (⟨a.val, by omega⟩ : Fin n) ≤ ⟨2, by omega⟩ from Fin.le_def.mpr (by dsimp only; omega)).lt_or_eq with h | h
      · exact hm _ _ h
      · exact le_of_eq (congrArg (fun z => d (σ z)) h)
  rw [e, Finset.sum_map]
  rfl

end Cert.Val
-- ==== Proof.Value.Tourney.lean ====
/- The tournament over the rows of the table of distances finds the three smallest of every column. -/
module

public import proofs.«01_k».proof.Proof.Gen.KernelIdeal.Skeleton
public import proofs.«01_k».proof.Proof.Value.Spec
public import proofs.«01_k».proof.Proof.Value.Top

@[expose] public section

noncomputable section

namespace Cert.KernelIdeal.Val

open Idealize.ShloMosaic Idealize.ShloMosaic.TcCoe Cert.KernelIdeal Cert.KernelIdeal.Gen Cert.Val

/-- A table of numbers with 2048 columns. -/
abbrev Tab (h : ℕ) := FVec Ideal (⟨2, ![h, 2048]⟩ : Shape) .f32

/-- The first rows of a table, read at an entry. -/
theorem slice_at {m h o : ℕ} (A : Tab m) (hs : (⟨2, ![m, 2048]⟩ : Shape).Slices ![o, 0] ⟨2, ![h, 2048]⟩)
    (p : Fin h) (q : Fin 2048) (hp : o + p.val < m) :
    extractStridedSlice ⟨2, ![h, 2048]⟩ ![o, 0] A hs (ix2 p q) = A (ix2 ⟨o + p.val, hp⟩ q) :=
  extractStridedSlice_apply ![o, 0] A hs (ix2 p q) (ix2 ⟨o + p.val, hp⟩ q) fun a =>
    match a with
    | ⟨0, _⟩ => rfl
    | ⟨1, _⟩ => (Nat.zero_add q.val).symm

/-- The second smallest of two triples, entry by entry. -/
def second {h : ℕ} (l1 h1 l2 h2 : Tab h) : Tab h := minimumf (maximumf l1 h1) (minimumf l2 h2)

/-- The third smallest of two triples, entry by entry. -/
def third {h : ℕ} (l1 h1 l2 h2 l3 h3 : Tab h) : Tab h :=
  minimumf (minimumf (maximumf (minimumf l2 h2) (maximumf l1 h1)) (maximumf l2 h2)) (minimumf l3 h3)

/-- In column `q`, row `p` of three tables holds the three smallest of the family counted by `c p`. -/
def Tops {h : ℕ} (A1 A2 A3 : Tab h) (q : Fin 2048) (c : ℕ → EReal → ℕ) : Prop :=
  ∀ p : Fin h, Top3 (A1 (ix2 p q)) (A2 (ix2 p q)) (A3 (ix2 p q)) (c p.val)

/-- Row `p` and the row half the height further on, counted together. -/
def fold (h : ℕ) (c : ℕ → EReal → ℕ) : ℕ → EReal → ℕ := fun p t => c p t + c (h + p) t

/-- Merging the lower half of the rows into the upper half. -/
theorem Tops.halve {m h : ℕ} {A1 A2 A3 : Tab m} {q : Fin 2048} {c : ℕ → EReal → ℕ} (hT : Tops A1 A2 A3 q c)
    (hm : m = h + h)
    (hl : (⟨2, ![m, 2048]⟩ : Shape).Slices ![0, 0] ⟨2, ![h, 2048]⟩)
    (hh : (⟨2, ![m, 2048]⟩ : Shape).Slices ![h, 0] ⟨2, ![h, 2048]⟩) :
    Tops (minimumf (extractStridedSlice ⟨2, ![h, 2048]⟩ ![0, 0] A1 hl) (extractStridedSlice ⟨2, ![h, 2048]⟩ ![h, 0] A1 hh))
      (second (extractStridedSlice ⟨2, ![h, 2048]⟩ ![0, 0] A1 hl) (extractStridedSlice ⟨2, ![h, 2048]⟩ ![h, 0] A1 hh)
        (extractStridedSlice ⟨2, ![h, 2048]⟩ ![0, 0] A2 hl) (extractStridedSlice ⟨2, ![h, 2048]⟩ ![h, 0] A2 hh))
      (third (extractStridedSlice ⟨2, ![h, 2048]⟩ ![0, 0] A1 hl) (extractStridedSlice ⟨2, ![h, 2048]⟩ ![h, 0] A1 hh)
        (extractStridedSlice ⟨2, ![h, 2048]⟩ ![0, 0] A2 hl) (extractStridedSlice ⟨2, ![h, 2048]⟩ ![h, 0] A2 hh)
        (extractStridedSlice ⟨2, ![h, 2048]⟩ ![0, 0] A3 hl) (extractStridedSlice ⟨2, ![h, 2048]⟩ ![h, 0] A3 hh))
      q (fold h c) := fun p => by
  have h0 : 0 + p.val < m := by have := p.isLt; omega
  have h1 : h + p.val < m := by have := p.isLt; omega
  have key := (hT ⟨0 + p.val, h0⟩).merge (hT ⟨h + p.val, h1⟩)
  rw [← slice_at A1 hl p q h0, ← slice_at A2 hl p q h0, ← slice_at A3 hl p q h0,
    ← slice_at A1 hh p q h1, ← slice_at A2 hh p q h1, ← slice_at A3 hh p q h1] at key
  dsimp only at key
  rw [Nat.zero_add] at key
  exact key

section

variable (v30 : FVec Ideal S2048x8 .f32) (v32 : FVec Ideal S1024x8 .f32) (v33 : Vec Ideal S1x1x2048 .f32) (q : Fin 2048)

/-- The distances of query `q` of the block, extended by zero. -/
def dcol (j : ℕ) : EReal := ext0 (fun j : Fin 1024 => k2_pay6 v30 v32 v33 (ix2 j q)) j

/-- Of the two points `j` and `j'`, how many are at a distance of at most `t`. -/
def pairc (o o' : ℕ) (p : ℕ) (t : EReal) : ℕ :=
  ind (dcol v30 v32 v33 q (o + p) ≤ t) + ind (dcol v30 v32 v33 q (o' + p) ≤ t)

/-- Of the eight points `p`, `128 + p`, and so on, how many are at a distance of at most `t`. -/
def eightc (p : ℕ) (t : EReal) : ℕ :=
  (pairc v30 v32 v33 q 0 128 p t + pairc v30 v32 v33 q 256 384 p t)
    + (pairc v30 v32 v33 q 512 640 p t + pairc v30 v32 v33 q 768 896 p t)

theorem strip0 (p : Fin 128) : k2_pay7 v30 v32 v33 (ix2 p q) = dcol v30 v32 v33 q (0 + p.val) :=
  (slice_at (k2_pay6 v30 v32 v33) slices_S1024x2048_o0_0_S128x2048 p q (by have := p.isLt; omega)).trans
    (ext0_of_lt (fun j : Fin 1024 => k2_pay6 v30 v32 v33 (ix2 j q)) _ _).symm

theorem strip1 (p : Fin 128) : k2_pay8 v30 v32 v33 (ix2 p q) = dcol v30 v32 v33 q (128 + p.val) :=
  (slice_at (k2_pay6 v30 v32 v33) slices_S1024x2048_o128_0_S128x2048 p q (by have := p.isLt; omega)).trans
    (ext0_of_lt (fun j : Fin 1024 => k2_pay6 v30 v32 v33 (ix2 j q)) _ _).symm

theorem strip2 (p : Fin 128) : k2_pay9 v30 v32 v33 (ix2 p q) = dcol v30 v32 v33 q (256 + p.val) :=
  (slice_at (k2_pay6 v30 v32 v33) slices_S1024x2048_o256_0_S128x2048 p q (by have := p.isLt; omega)).trans
    (ext0_of_lt (fun j : Fin 1024 => k2_pay6 v30 v32 v33 (ix2 j q)) _ _).symm

theorem strip3 (p : Fin 128) : k2_pay10 v30 v32 v33 (ix2 p q) = dcol v30 v32 v33 q (384 + p.val) :=
  (slice_at (k2_pay6 v30 v32 v33) slices_S1024x2048_o384_0_S128x2048 p q (by have := p.isLt; omega)).trans
    (ext0_of_lt (fun j : Fin 1024 => k2_pay6 v30 v32 v33 (ix2 j q)) _ _).symm

theorem strip4 (p : Fin 128) : k2_pay11 v30 v32 v33 (ix2 p q) = dcol v30 v32 v33 q (512 + p.val) :=
  (slice_at (k2_pay6 v30 v32 v33) slices_S1024x2048_o512_0_S128x2048 p q (by have := p.isLt; omega)).trans
    (ext0_of_lt (fun j : Fin 1024 => k2_pay6 v30 v32 v33 (ix2 j q)) _ _).symm

theorem strip5 (p : Fin 128) : k2_pay12 v30 v32 v33 (ix2 p q) = dcol v30 v32 v33 q (640 + p.val) :=
  (slice_at (k2_pay6 v30 v32 v33) slices_S1024x2048_o640_0_S128x2048 p q (by have := p.isLt; omega)).trans
    (ext0_of_lt (fun j : Fin 1024 => k2_pay6 v30 v32 v33 (ix2 j q)) _ _).symm

theorem strip6 (p : Fin 128) : k2_pay13 v30 v32 v33 (ix2 p q) = dcol v30 v32 v33 q (768 + p.val) :=
  (slice_at (k2_pay6 v30 v32 v33) slices_S1024x2048_o768_0_S128x2048 p q (by have := p.isLt; omega)).trans
    (ext0_of_lt (fun j : Fin 1024 => k2_pay6 v30 v32 v33 (ix2 j q)) _ _).symm

theorem strip7 (p : Fin 128) : k2_pay14 v30 v32 v33 (ix2 p q) = dcol v30 v32 v33 q (896 + p.val) :=
  (slice_at (k2_pay6 v30 v32 v33) slices_S1024x2048_o896_0_S128x2048 p q (by have := p.isLt; omega)).trans
    (ext0_of_lt (fun j : Fin 1024 => k2_pay6 v30 v32 v33 (ix2 j q)) _ _).symm

theorem pair0 (p : Fin 128) : Top2 (k2_pay15 v30 v32 v33 (ix2 p q)) (k2_pay19 v30 v32 v33 (ix2 p q))
    (pairc v30 v32 v33 q 0 128 p.val) := by
  have key := top2_pair (k2_pay7 v30 v32 v33 (ix2 p q)) (k2_pay8 v30 v32 v33 (ix2 p q))
  rw [strip0, strip1] at key
  unfold k2_pay15 k2_pay19
  rw [minimumf_apply, maximumf_apply, strip0, strip1]
  exact key

theorem pair1 (p : Fin 128) : Top2 (k2_pay16 v30 v32 v33 (ix2 p q)) (k2_pay20 v30 v32 v33 (ix2 p q))
    (pairc v30 v32 v33 q 256 384 p.val) := by
  have key := top2_pair (k2_pay9 v30 v32 v33 (ix2 p q)) (k2_pay10 v30 v32 v33 (ix2 p q))
  rw [strip2, strip3] at key
  unfold k2_pay16 k2_pay20
  rw [minimumf_apply, maximumf_apply, strip2, strip3]
  exact key

theorem pair2 (p : Fin 128) : Top2 (k2_pay17 v30 v32 v33 (ix2 p q)) (k2_pay21 v30 v32 v33 (ix2 p q))
    (pairc v30 v32 v33 q 512 640 p.val) := by
  have key := top2_pair (k2_pay11 v30 v32 v33 (ix2 p q)) (k2_pay12 v30 v32 v33 (ix2 p q))
  rw [strip4, strip5] at key
  unfold k2_pay17 k2_pay21
  rw [minimumf_apply, maximumf_apply, strip4, strip5]
  exact key

theorem pair3 (p : Fin 128) : Top2 (k2_pay18 v30 v32 v33 (ix2 p q)) (k2_pay22 v30 v32 v33 (ix2 p q))
    (pairc v30 v32 v33 q 768 896 p.val) := by
  have key := top2_pair (k2_pay13 v30 v32 v33 (ix2 p q)) (k2_pay14 v30 v32 v33 (ix2 p q))
  rw [strip6, strip7] at key
  unfold k2_pay18 k2_pay22
  rw [minimumf_apply, maximumf_apply, strip6, strip7]
  exact key

/-- The first round: eight strips of rows to one. -/
theorem round128 : Tops (h := 128) (k2_pay32 v30 v32 v33) (k2_pay34 v30 v32 v33) (k2_pay35 v30 v32 v33) q
    (eightc v30 v32 v33 q) := fun p =>
  ((pair0 v30 v32 v33 q p).merge (pair1 v30 v32 v33 q p)).merge ((pair2 v30 v32 v33 q p).merge (pair3 v30 v32 v33 q p))

/-- The third smallest after the round to 64 rows. -/
def third64 : Tab 64 := third (k2_pay36 v30 v32 v33) (k2_pay39 v30 v32 v33) (k2_pay37 v30 v32 v33) (k2_pay40 v30 v32 v33)
  (k2_pay38 v30 v32 v33) (k2_pay41 v30 v32 v33)

theorem round64 : Tops (h := 64) (k2_pay43 v30 v32 v33)
    (k2_pay45 (k2_pay37 v30 v32 v33) (k2_pay40 v30 v32 v33) (k2_pay42 v30 v32 v33)) (third64 v30 v32 v33) q
    (fold 64 (eightc v30 v32 v33 q)) :=
  (round128 v30 v32 v33 q).halve rfl slices_S128x2048_o0_0_S64x2048 slices_S128x2048_o64_0_S64x2048

end

section

variable (v83 v84 v86 v87 v88 v89 : FVec Ideal S64x2048 .f32) (w : FVec Ideal S64x2048 .f32) (q : Fin 2048)
  (c : ℕ → EReal → ℕ)

/-- The third smallest after the round to 32 rows. -/
def third32 : Tab 32 := third (k2_pay46 v89) (k2_pay48 v89) (k2_pay47 v83 v86 v88) (k2_pay49 v83 v86 v88)
  (extractStridedSlice S32x2048 ![0, 0] w slices_S64x2048_o0_0_S32x2048)
  (extractStridedSlice S32x2048 ![32, 0] w slices_S64x2048_o32_0_S32x2048)

/-- The third smallest after the round to 16 rows. -/
def third16 : Tab 16 := third (k2_pay54 v89) (k2_pay56 v89) (k2_pay55 v83 v86 v88 v89) (k2_pay57 v83 v86 v88 v89)
  (extractStridedSlice S16x2048 ![0, 0] (third32 v83 v86 v88 v89 w) slices_S32x2048_o0_0_S16x2048)
  (extractStridedSlice S16x2048 ![16, 0] (third32 v83 v86 v88 v89 w) slices_S32x2048_o16_0_S16x2048)

/-- The third smallest after the round to 8 rows. -/
def third8 : Tab 8 := third (k2_pay62 v89) (k2_pay64 v89) (k2_pay63 v83 v86 v88 v89) (k2_pay65 v83 v86 v88 v89)
  (extractStridedSlice S8x2048 ![0, 0] (third16 v83 v86 v88 v89 w) slices_S16x2048_o0_0_S8x2048)
  (extractStridedSlice S8x2048 ![8, 0] (third16 v83 v86 v88 v89 w) slices_S16x2048_o8_0_S8x2048)

/-- The three rounds from 64 rows to 8. -/
theorem round8 (h : Tops (h := 64) v89 (k2_pay45 v83 v86 v88) w q c) :
    Tops (h := 8) (k2_pay67 v89) (k2_pay69 v83 v86 v88 v89) (third8 v83 v86 v88 v89 w) q (fold 8 (fold 16 (fold 32 c))) :=
  have h32 : Tops (h := 32) (k2_pay51 v89) (k2_pay53 v83 v86 v88 v89) (third32 v83 v86 v88 v89 w) q (fold 32 c) :=
    h.halve rfl slices_S64x2048_o0_0_S32x2048 slices_S64x2048_o32_0_S32x2048
  have h16 : Tops (h := 16) (k2_pay59 v89) (k2_pay61 v83 v86 v88 v89) (third16 v83 v86 v88 v89 w) q (fold 16 (fold 32 c)) :=
    h32.halve rfl slices_S32x2048_o0_0_S16x2048 slices_S32x2048_o16_0_S16x2048
  h16.halve rfl slices_S16x2048_o0_0_S8x2048 slices_S16x2048_o8_0_S8x2048

/-- The kernel's third smallest at 8 rows is this one. -/
theorem pay70_eq : k2_pay70 v83 v84 v86 v87 v88 v89
    = third8 v83 v86 v88 v89 (minimumf (minimumf (maximumf (k2_pay44 v83 v86) v88) (maximumf v83 v86)) (minimumf v84 v87)) := rfl

end

section

variable (v83 v86 v88 v89 : FVec Ideal S64x2048 .f32) (w : FVec Ideal S8x2048 .f32) (q : Fin 2048)
  (c : ℕ → EReal → ℕ)

/-- The third smallest after the round to 4 rows. -/
def third4 : Tab 4 := third (k2_pay71 v89) (k2_pay74 v89) (k2_pay72 v83 v86 v88 v89) (k2_pay75 v83 v86 v88 v89)
  (extractStridedSlice S4x2048 ![0, 0] w slices_S8x2048_o0_0_S4x2048)
  (extractStridedSlice S4x2048 ![4, 0] w slices_S8x2048_o4_0_S4x2048)

/-- The round from 8 rows to 4. -/
theorem round4 (h : Tops (h := 8) (k2_pay67 v89) (k2_pay69 v83 v86 v88 v89) w q c) :
    Tops (h := 4) (k2_pay78 v89) (k2_pay80 (k2_pay72 v83 v86 v88 v89) (k2_pay75 v83 v86 v88 v89) (k2_pay77 v89))
      (third4 v83 v86 v88 v89 w) q (fold 4 c) :=
  h.halve rfl slices_S8x2048_o0_0_S4x2048 slices_S8x2048_o4_0_S4x2048

end

section

variable (v143 v144 v146 v147 v148 v149 : FVec Ideal S4x2048 .f32) (w : FVec Ideal S4x2048 .f32) (q : Fin 2048)
  (c : ℕ → EReal → ℕ)

/-- The third smallest after the round to 2 rows. -/
def third2 : Tab 2 := third (k2_pay81 v149) (k2_pay83 v149) (k2_pay82 v143 v146 v148) (k2_pay84 v143 v146 v148)
  (extractStridedSlice S2x2048 ![0, 0] w slices_S4x2048_o0_0_S2x2048)
  (extractStridedSlice S2x2048 ![2, 0] w slices_S4x2048_o2_0_S2x2048)

/-- The third smallest after the last round. -/
def third1 : Tab 1 := third (k2_pay89 v149) (k2_pay91 v149) (k2_pay90 v143 v146 v148 v149) (k2_pay92 v143 v146 v148 v149)
  (extractStridedSlice S1x2048 ![0, 0] (third2 v143 v146 v148 v149 w) slices_S2x2048_o0_0_S1x2048)
  (extractStridedSlice S1x2048 ![1, 0] (third2 v143 v146 v148 v149 w) slices_S2x2048_o1_0_S1x2048)

/-- The two rounds from 4 rows to one. -/
theorem round1 (h : Tops (h := 4) v149 (k2_pay80 v143 v146 v148) w q c) :
    Tops (h := 1) (minimumf (k2_pay89 v149) (k2_pay91 v149)) (minimumf (k2_pay93 v149) (k2_pay94 v143 v146 v148 v149))
      (third1 v143 v146 v148 v149 w) q (fold 1 (fold 2 c)) :=
  have h2 : Tops (h := 2) (k2_pay86 v149) (k2_pay88 v143 v146 v148 v149) (third2 v143 v146 v148 v149 w) q (fold 2 c) :=
    h.halve rfl slices_S4x2048_o0_0_S2x2048 slices_S4x2048_o2_0_S2x2048
  h2.halve rfl slices_S2x2048_o0_0_S1x2048 slices_S2x2048_o1_0_S1x2048

/-- The kernel's third smallest in the end is this one. -/
theorem pay95_eq : k2_pay95 v143 v144 v146 v147 v148 v149
    = third1 v143 v146 v148 v149 (minimumf (minimumf (maximumf (k2_pay79 v143 v146) v148) (maximumf v143 v146)) (minimumf v144 v147)) := rfl

end

/-- One round leaves the total count as it was. -/
theorem sum_fold (h : ℕ) (c : ℕ → EReal → ℕ) (t : EReal) :
    ∑ p ∈ Finset.range h, fold h c p t = ∑ p ∈ Finset.range (h + h), c p t := by
  rw [Finset.sum_range_add, ← Finset.sum_add_distrib]
  rfl

/-- All rounds together count every point once. -/
theorem fold_all (c : ℕ → EReal → ℕ) (t : EReal) :
    fold 1 (fold 2 (fold 4 (fold 8 (fold 16 (fold 32 (fold 64 c)))))) 0 t = ∑ p ∈ Finset.range 128, c p t := by
  have e := sum_fold 1 (fold 2 (fold 4 (fold 8 (fold 16 (fold 32 (fold 64 c)))))) t
  rw [Finset.sum_range_one] at e
  rw [e, sum_fold 2, sum_fold 4, sum_fold 8, sum_fold 16, sum_fold 32, sum_fold 64]

section

variable (v30 : FVec Ideal S2048x8 .f32) (v32 : FVec Ideal S1024x8 .f32) (v33 : Vec Ideal S1x1x2048 .f32) (q : Fin 2048)

/-- The eight strips together count every point once. -/
theorem sum_eightc (t : EReal) : ∑ p ∈ Finset.range 128, eightc v30 v32 v33 q p t
    = count (fun j : Fin 1024 => k2_pay6 v30 v32 v33 (ix2 j q)) t := by
  have e : count (fun j : Fin 1024 => k2_pay6 v30 v32 v33 (ix2 j q)) t
      = ∑ p ∈ Finset.range (128 + 128 + 128 + 128 + 128 + 128 + 128 + 128), ind (dcol v30 v32 v33 q p ≤ t) := by
    rw [Finset.sum_range]
    exact Finset.sum_congr rfl fun j _ => by
      rw [show dcol v30 v32 v33 q j.val = k2_pay6 v30 v32 v33 (ix2 j q) from
        ext0_of_lt (fun j : Fin 1024 => k2_pay6 v30 v32 v33 (ix2 j q)) j.val j.isLt]
  rw [e]
  simp only [Finset.sum_range_add, eightc, pairc, Finset.sum_add_distrib, Nat.zero_add]
  simp only [Nat.reduceAdd]
  omega

/-- The second row to fourth row values that the last rounds start from. -/
def q72 : FVec Ideal S4x2048 .f32 :=
  k2_pay72 (k2_pay37 v30 v32 v33) (k2_pay40 v30 v32 v33) (k2_pay42 v30 v32 v33) (k2_pay43 v30 v32 v33)
def q73 : FVec Ideal S4x2048 .f32 :=
  k2_pay73 (k2_pay37 v30 v32 v33) (k2_pay38 v30 v32 v33) (k2_pay40 v30 v32 v33) (k2_pay41 v30 v32 v33) (k2_pay42 v30 v32 v33)
    (k2_pay43 v30 v32 v33)
def q75 : FVec Ideal S4x2048 .f32 :=
  k2_pay75 (k2_pay37 v30 v32 v33) (k2_pay40 v30 v32 v33) (k2_pay42 v30 v32 v33) (k2_pay43 v30 v32 v33)
def q76 : FVec Ideal S4x2048 .f32 :=
  k2_pay76 (k2_pay37 v30 v32 v33) (k2_pay38 v30 v32 v33) (k2_pay40 v30 v32 v33) (k2_pay41 v30 v32 v33) (k2_pay42 v30 v32 v33)
    (k2_pay43 v30 v32 v33)
def q77 : FVec Ideal S4x2048 .f32 := k2_pay77 (k2_pay43 v30 v32 v33)
def q78 : FVec Ideal S4x2048 .f32 := k2_pay78 (k2_pay43 v30 v32 v33)

/-- The smallest distance, of every query. -/
def near1 : FVec Ideal S1x2048 .f32 := minimumf (k2_pay89 (q78 v30 v32 v33)) (k2_pay91 (q78 v30 v32 v33))

/-- The second smallest distance, of every query. -/
def near2 : FVec Ideal S1x2048 .f32 :=
  minimumf (k2_pay93 (q78 v30 v32 v33)) (k2_pay94 (q72 v30 v32 v33) (q75 v30 v32 v33) (q77 v30 v32 v33) (q78 v30 v32 v33))

/-- The third smallest distance, of every query. -/
def near3 : FVec Ideal S1x2048 .f32 :=
  k2_pay95 (q72 v30 v32 v33) (q73 v30 v32 v33) (q75 v30 v32 v33) (q76 v30 v32 v33) (q77 v30 v32 v33) (q78 v30 v32 v33)

theorem near3_eq : near3 v30 v32 v33 = third1 (q72 v30 v32 v33) (q75 v30 v32 v33) (q77 v30 v32 v33) (q78 v30 v32 v33)
    (third4 (k2_pay37 v30 v32 v33) (k2_pay40 v30 v32 v33) (k2_pay42 v30 v32 v33) (k2_pay43 v30 v32 v33)
      (third8 (k2_pay37 v30 v32 v33) (k2_pay40 v30 v32 v33) (k2_pay42 v30 v32 v33) (k2_pay43 v30 v32 v33)
        (third64 v30 v32 v33))) := by
  unfold near3
  rw [pay95_eq]
  rfl

/-- The tournament finds the three smallest of the 1024 distances of every query. -/
theorem tournament : Top3 (near1 v30 v32 v33 (ix2 0 q)) (near2 v30 v32 v33 (ix2 0 q)) (near3 v30 v32 v33 (ix2 0 q))
    (count fun j : Fin 1024 => k2_pay6 v30 v32 v33 (ix2 j q)) := by
  have key := round1 _ _ _ _ _ q _ (round4 _ _ _ _ _ q _ (round8 _ _ _ _ _ q _ (round64 v30 v32 v33 q))) 0
  rw [near3_eq]
  intro t
  rw [← sum_eightc, ← fold_all]
  exact key t

end

end Cert.KernelIdeal.Val
-- ==== Proof.Value.Block2.lean ====
/- The fused body, read at an entry of its output block. -/
module

public import proofs.«01_k».proof.Proof.Gen.KernelIdeal.Skeleton
public import proofs.«01_k».proof.Proof.Value.Spec
public import proofs.«01_k».proof.Proof.Value.Tourney
public import Idealize.ShloMosaic.Lib.Pointwise

@[expose] public section

noncomputable section

namespace Cert.KernelIdeal.Val

open Idealize.ShloMosaic Idealize.ShloMosaic.TcCoe Cert.KernelIdeal Cert.KernelIdeal.Gen Cert.Val

/-- The constant that both programs add to a distance before taking its reciprocal. -/
def e8 : EReal := Ideal.ofBits .f32 0x322BCC77#32

/-- The first features of one block: the linear layer, scaled, shifted, and cut off at zero. -/
theorem k2_pay2_apply (x : Vec Ideal S2048x256 .f32) (w : Vec Ideal S256x256 .f32) (b sc sh : Vec Ideal S1x256 .f32)
    (p : Fin 2048) (j : Fin 256) :
    k2_pay2 x w b sc sh (ix2 p j) = max (lin x w b p j * sc (ix2 0 j) + sh (ix2 0 j)) 0 := by
  unfold k2_pay2 lin
  pointwise

/-- The second features of one block: scaled, shifted, and cut off at zero. -/
theorem k2_pay3_apply (y : Vec Ideal S1024x256 .f32) (sc sh : Vec Ideal S1x256 .f32) (p : Fin 1024) (j : Fin 256) :
    k2_pay3 y sc sh (ix2 p j) = max (y (ix2 p j) * sc (ix2 0 j) + sh (ix2 0 j)) 0 := by
  unfold k2_pay3
  pointwise

/-- The distance of point `j` and query `q` of one block. -/
theorem k2_pay6_apply (v30 : FVec Ideal S2048x8 .f32) (v32 : FVec Ideal S1024x8 .f32) (v33 : Vec Ideal S1x1x2048 .f32)
    (j : Fin 1024) (q : Fin 2048) :
    k2_pay6 v30 v32 v33 (ix2 j q)
      = max ((v33 (ix3 0 0 q) + v32 (ix2 j 3)) + ∑ k : Fin 8, v32 (ix2 j k) * v30 (ix2 q k)) 0 := by
  unfold k2_pay6
  pointwise

/-- The output of one block: the first features plus the weighted sum of the second. -/
theorem k2_pay1_apply (v16 : FVec Ideal S2048x256 .f32) (v28 : FVec Ideal S1024x256 .f32) (v42 : FVec Ideal S1024x2048 .f32)
    (v186 v202 : FVec Ideal S1x2048 .f32) (p : Fin 2048) (ch : Fin 256) :
    k2_pay1 v16 v28 v42 v186 v202 (ix2 p ch)
      = v16 (ix2 p ch) + ∑ j : Fin 1024, ((if v42 (ix2 j p) ≤ v186 (ix2 0 p) then Ideal.div 1 (v42 (ix2 j p) + e8) else 0)
          * v202 (ix2 0 p)) * v28 (ix2 j ch) := by
  unfold k2_pay1 e8
  pointwise

/-- The reciprocal of the sum of the three reciprocals. -/
theorem inv_apply (v30 : FVec Ideal S2048x8 .f32) (v32 : FVec Ideal S1024x8 .f32) (v33 : Vec Ideal S1x1x2048 .f32) (q : Fin 2048) :
    k2_pay96 (q72 v30 v32 v33) (q73 v30 v32 v33) (q75 v30 v32 v33) (q76 v30 v32 v33) (q77 v30 v32 v33) (q78 v30 v32 v33) (ix2 0 q)
      = Ideal.div 1 (Ideal.div 1 (near1 v30 v32 v33 (ix2 0 q) + e8) + Ideal.div 1 (near2 v30 v32 v33 (ix2 0 q) + e8)
          + Ideal.div 1 (near3 v30 v32 v33 (ix2 0 q) + e8)) := by
  rw [show (1 : EReal) = Ideal.ofBits .f32 0x3F800000#32 from Ideal.ofBits_one_f32.symm]
  rfl

/-- An entry of the stored block, from the features and the distances of the block. -/
theorem block_apply (f1 : FVec Ideal S2048x256 .f32) (f2 : FVec Ideal S1024x256 .f32) (v30 : FVec Ideal S2048x8 .f32)
    (v32 : FVec Ideal S1024x8 .f32) (v33 : Vec Ideal S1x1x2048 .f32) (p : Fin 2048) (ch : Fin 256)
    (d : Fin 1024 → EReal) (hd : ∀ j, k2_pay6 v30 v32 v33 (ix2 j p) = d j) :
    ∃ a1 a2 a3 : EReal, Top3 a1 a2 a3 (Cert.Val.count d) ∧
      k2_pay1 f1 f2 (k2_pay6 v30 v32 v33) (near3 v30 v32 v33) (k2_pay96 (q72 v30 v32 v33) (q73 v30 v32 v33) (q75 v30 v32 v33)
          (q76 v30 v32 v33) (q77 v30 v32 v33) (q78 v30 v32 v33)) (ix2 p ch)
        = f1 (ix2 p ch) + ∑ j : Fin 1024, ((if d j ≤ a3 then Ideal.div 1 (d j + e8) else 0)
            * Ideal.div 1 (Ideal.div 1 (a1 + e8) + Ideal.div 1 (a2 + e8) + Ideal.div 1 (a3 + e8))) * f2 (ix2 j ch) := by
  obtain rfl : (fun j => k2_pay6 v30 v32 v33 (ix2 j p)) = d := funext hd
  refine ⟨near1 v30 v32 v33 (ix2 0 p), near2 v30 v32 v33 (ix2 0 p), near3 v30 v32 v33 (ix2 0 p), tournament v30 v32 v33 p, ?_⟩
  rw [k2_pay1_apply, inv_apply]

end Cert.KernelIdeal.Val
-- ==== Proof.Value.Fused2.lean ====
/- Region 2: what its blocks read, and its result array. -/
module

public import proofs.«01_k».proof.Proof.Ideal.Region2
public import proofs.«01_k».proof.Proof.Value.Block2

@[expose] public section

noncomputable section

namespace Cert.KernelIdeal.Val

open Idealize.ShloMosaic Idealize.ShloMosaic.TcCoe Cert.KernelIdeal Cert.KernelIdeal.Gen Cert.Val
open Idealize.SL.Sem
open Idealize.ShloMosaic.Pipeline (Dat)

/-- The block that the fused body stores, as one payload of what it reads. -/
theorem out2_11_eq (x0 : Vec Ideal S2048x256 .f32) (x1 : Vec Ideal S256x256 .f32) (x2 : Vec Ideal S1x256 .f32)
    (x3 : Vec Ideal S2048x8 .f32) (x4 : Vec Ideal S1024x8 .f32) (x5 : Vec Ideal S1x1x2048 .f32) (x6 : Vec Ideal S1024x256 .f32)
    (x7 x8 x9 x10 : Vec Ideal S1x256 .f32) :
    out2_11 x0 x1 x2 x3 x4 x5 x6 x7 x8 x9 x10
      = k2_pay1 (k2_pay2 x0 x1 x2 x7 x8) (k2_pay3 x6 x9 x10) (k2_pay6 x3 x4 x5) (near3 x3 x4 x5)
          (k2_pay96 (q72 x3 x4 x5) (q73 x3 x4 x5) (q75 x3 x4 x5) (q76 x3 x4 x5) (q77 x3 x4 x5) (q78 x3 x4 x5)) := by
  have hz2 : (![0, 0] : Fin 2 → Nat) = fun _ => 0 := funext fun a => by fin_cases a <;> rfl
  have hz3 : (![0, 0, 0] : Fin 3 → Nat) = fun _ => 0 := funext fun a => by fin_cases a <;> rfl
  unfold out2_11
  rw [View.canon_unit_zero hz2]
  unfold k2_pay105 k2_pay106 k2_pay107 k2_pay108 k2_pay109 k2_pay110 k2_pay99 k2_pay100 k2_pay101 k2_pay102 k2_pay103 k2_pay104
    k2_pay97 k2_pay98 k2_pay4 k2_pay5
  simp only [View.ld_unit_zero (S := S2048x256) hz2, View.ld_unit_zero (S := S256x256) hz2, View.ld_unit_zero (S := S1x256) hz2,
    View.ld_unit_zero (S := S2048x8) hz2, View.ld_unit_zero (S := S1024x8) hz2, View.ld_unit_zero (S := S1024x256) hz2,
    View.ld_unit_zero (S := S1x1x2048) hz3, shapeCast_self]
  rfl

section

variable (V : (c : Dev nD) → (b : Ref sig .tc) → Buf (Elt Ideal) ((c : Thread nD τ).loc b))

/-- The block of the first features: 2048 rows from the point on. -/
theorem iblk2_0_eq (c : Dev nD) (t : Fin cfg2.N) (p : Fin 2048) (k : Fin 256) (h : 2048 * t.val + p.val < 32768) :
    (iblk2 V c 0 t : Vec Ideal S2048x256 .f32) (ix2 p k)
      = (V c main_arg1 : S32768x256.Idx → EReal) (ix2 ⟨2048 * t.val + p.val, h⟩ k) := by
  have hi : ∀ t : Fin grid2.N, win2_0.index t 0 = t.val ∧ win2_0.index t 1 = 0 := by decide +kernel
  unfold iblk2
  rw [View.read_apply]
  show V c main_arg1 _ = V c main_arg1 _
  congr 1
  funext a
  apply Fin.ext
  match a with
  | ⟨0, _⟩ => show win2_0.index t 0 * 2048 + 1 * p.val = 2048 * t.val + p.val; rw [(hi t).1]; omega
  | ⟨1, _⟩ => show win2_0.index t 1 * 256 + 1 * k.val = k.val; rw [(hi t).2]; omega

/-- The whole first weight matrix. -/
theorem iblk2_1_eq (c : Dev nD) (t : Fin cfg2.N) (i : S256x256.Idx) :
    (iblk2 V c 1 t : Vec Ideal S256x256 .f32) i = (V c main_arg4 : S256x256.Idx → EReal) i := by
  have hi : ∀ t : Fin grid2.N, win2_1.index t 0 = 0 ∧ win2_1.index t 1 = 0 := by decide +kernel
  unfold iblk2
  rw [View.read_apply]
  show V c main_arg4 _ = V c main_arg4 _
  congr 1
  funext a
  apply Fin.ext
  match a with
  | ⟨0, _⟩ => show win2_1.index t 0 * 256 + 1 * (i 0).val = (i 0).val; rw [(hi t).1]; omega
  | ⟨1, _⟩ => show win2_1.index t 1 * 256 + 1 * (i 1).val = (i 1).val; rw [(hi t).2]; omega

/-- The whole first bias row. -/
theorem iblk2_2_eq (c : Dev nD) (t : Fin cfg2.N) (i : S1x256.Idx) :
    (iblk2 V c 2 t : Vec Ideal S1x256 .f32) i = (V c main_v47 : S1x256.Idx → EReal) i := by
  have hi : ∀ t : Fin grid2.N, win2_2.index t 0 = 0 ∧ win2_2.index t 1 = 0 := by decide +kernel
  unfold iblk2
  rw [View.read_apply]
  show V c main_v47 _ = V c main_v47 _
  congr 1
  funext a
  apply Fin.ext
  match a with
  | ⟨0, _⟩ => show win2_2.index t 0 * 1 + 1 * (i 0).val = (i 0).val; rw [(hi t).1]; omega
  | ⟨1, _⟩ => show win2_2.index t 1 * 256 + 1 * (i 1).val = (i 1).val; rw [(hi t).2]; omega

/-- The block of the padded queries. -/
theorem iblk2_3_eq (c : Dev nD) (t : Fin cfg2.N) (p : Fin 2048) (k : Fin 8) (h : 2048 * t.val + p.val < 32768) :
    (iblk2 V c 3 t : Vec Ideal S2048x8 .f32) (ix2 p k)
      = (V c main_v8 : S32768x8.Idx → EReal) (ix2 ⟨2048 * t.val + p.val, h⟩ k) := by
  have hi : ∀ t : Fin grid2.N, win2_3.index t 0 = t.val ∧ win2_3.index t 1 = 0 := by decide +kernel
  unfold iblk2
  rw [View.read_apply]
  show V c main_v8 _ = V c main_v8 _
  congr 1
  funext a
  apply Fin.ext
  match a with
  | ⟨0, _⟩ => show win2_3.index t 0 * 2048 + 1 * p.val = 2048 * t.val + p.val; rw [(hi t).1]; omega
  | ⟨1, _⟩ => show win2_3.index t 1 * 8 + 1 * k.val = k.val; rw [(hi t).2]; omega

/-- The padded points of the batch. -/
theorem iblk2_4_eq (c : Dev nD) (t : Fin cfg2.N) (p : Fin 1024) (k : Fin 8) (h : 1024 * (t.val / 2) + p.val < 8192) :
    (iblk2 V c 4 t : Vec Ideal S1024x8 .f32) (ix2 p k)
      = (V c main_v10 : S8192x8.Idx → EReal) (ix2 ⟨1024 * (t.val / 2) + p.val, h⟩ k) := by
  have hi : ∀ t : Fin grid2.N, win2_4.index t 0 = t.val / 2 ∧ win2_4.index t 1 = 0 := by decide +kernel
  unfold iblk2
  rw [View.read_apply]
  show V c main_v10 _ = V c main_v10 _
  congr 1
  funext a
  apply Fin.ext
  match a with
  | ⟨0, _⟩ => show win2_4.index t 0 * 1024 + 1 * p.val = 1024 * (t.val / 2) + p.val; rw [(hi t).1]; omega
  | ⟨1, _⟩ => show win2_4.index t 1 * 8 + 1 * k.val = k.val; rw [(hi t).2]; omega

/-- The squared lengths of the queries of the block. -/
theorem iblk2_5_eq (c : Dev nD) (t : Fin cfg2.N) (q : Fin 2048) (h : t.val < 16) :
    (iblk2 V c 5 t : Vec Ideal S1x1x2048 .f32) (ix3 0 0 q) = (V c main_v5 : S16x1x2048.Idx → EReal) (ix3 ⟨t.val, h⟩ 0 q) := by
  have hi : ∀ t : Fin grid2.N, win2_5.index t 0 = t.val ∧ win2_5.index t 1 = 0 ∧ win2_5.index t 2 = 0 := by decide +kernel
  unfold iblk2
  rw [View.read_apply]
  show V c main_v5 _ = V c main_v5 _
  congr 1
  funext a
  apply Fin.ext
  match a with
  | ⟨0, _⟩ => show win2_5.index t 0 * 1 + 1 * 0 = t.val; rw [(hi t).1]; omega
  | ⟨1, _⟩ => show win2_5.index t 1 * 1 + 1 * 0 = 0; rw [(hi t).2.1]
  | ⟨2, _⟩ => show win2_5.index t 2 * 2048 + 1 * q.val = q.val; rw [(hi t).2.2]; omega

/-- The second linear layer at the points of the batch. -/
theorem iblk2_6_eq (c : Dev nD) (t : Fin cfg2.N) (p : Fin 1024) (k : Fin 256) (h : 1024 * (t.val / 2) + p.val < 8192) :
    (iblk2 V c 6 t : Vec Ideal S1024x256 .f32) (ix2 p k)
      = (V c main_v14_0 : S8192x256.Idx → EReal) (ix2 ⟨1024 * (t.val / 2) + p.val, h⟩ k) := by
  have hi : ∀ t : Fin grid2.N, win2_6.index t 0 = t.val / 2 ∧ win2_6.index t 1 = 0 := by decide +kernel
  unfold iblk2
  rw [View.read_apply]
  show V c main_v14_0 _ = V c main_v14_0 _
  congr 1
  funext a
  apply Fin.ext
  match a with
  | ⟨0, _⟩ => show win2_6.index t 0 * 1024 + 1 * p.val = 1024 * (t.val / 2) + p.val; rw [(hi t).1]; omega
  | ⟨1, _⟩ => show win2_6.index t 1 * 256 + 1 * k.val = k.val; rw [(hi t).2]; omega

/-- The whole first scale row. -/
theorem iblk2_7_eq (c : Dev nD) (t : Fin cfg2.N) (i : S1x256.Idx) :
    (iblk2 V c 7 t : Vec Ideal S1x256 .f32) i = (V c main_v29 : S1x256.Idx → EReal) i := by
  have hi : ∀ t : Fin grid2.N, win2_7.index t 0 = 0 ∧ win2_7.index t 1 = 0 := by decide +kernel
  unfold iblk2
  rw [View.read_apply]
  show V c main_v29 _ = V c main_v29 _
  congr 1
  funext a
  apply Fin.ext
  match a with
  | ⟨0, _⟩ => show win2_7.index t 0 * 1 + 1 * (i 0).val = (i 0).val; rw [(hi t).1]; omega
  | ⟨1, _⟩ => show win2_7.index t 1 * 256 + 1 * (i 1).val = (i 1).val; rw [(hi t).2]; omega

/-- The whole first shift row. -/
theorem iblk2_8_eq (c : Dev nD) (t : Fin cfg2.N) (i : S1x256.Idx) :
    (iblk2 V c 8 t : Vec Ideal S1x256 .f32) i = (V c main_v30 : S1x256.Idx → EReal) i := by
  have hi : ∀ t : Fin grid2.N, win2_8.index t 0 = 0 ∧ win2_8.index t 1 = 0 := by decide +kernel
  unfold iblk2
  rw [View.read_apply]
  show V c main_v30 _ = V c main_v30 _
  congr 1
  funext a
  apply Fin.ext
  match a with
  | ⟨0, _⟩ => show win2_8.index t 0 * 1 + 1 * (i 0).val = (i 0).val; rw [(hi t).1]; omega
  | ⟨1, _⟩ => show win2_8.index t 1 * 256 + 1 * (i 1).val = (i 1).val; rw [(hi t).2]; omega

/-- The whole second scale row. -/
theorem iblk2_9_eq (c : Dev nD) (t : Fin cfg2.N) (i : S1x256.Idx) :
    (iblk2 V c 9 t : Vec Ideal S1x256 .f32) i = (V c main_v45 : S1x256.Idx → EReal) i := by
  have hi : ∀ t : Fin grid2.N, win2_9.index t 0 = 0 ∧ win2_9.index t 1 = 0 := by decide +kernel
  unfold iblk2
  rw [View.read_apply]
  show V c main_v45 _ = V c main_v45 _
  congr 1
  funext a
  apply Fin.ext
  match a with
  | ⟨0, _⟩ => show win2_9.index t 0 * 1 + 1 * (i 0).val = (i 0).val; rw [(hi t).1]; omega
  | ⟨1, _⟩ => show win2_9.index t 1 * 256 + 1 * (i 1).val = (i 1).val; rw [(hi t).2]; omega

/-- The whole second shift row. -/
theorem iblk2_10_eq (c : Dev nD) (t : Fin cfg2.N) (i : S1x256.Idx) :
    (iblk2 V c 10 t : Vec Ideal S1x256 .f32) i = (V c main_v46 : S1x256.Idx → EReal) i := by
  have hi : ∀ t : Fin grid2.N, win2_10.index t 0 = 0 ∧ win2_10.index t 1 = 0 := by decide +kernel
  unfold iblk2
  rw [View.read_apply]
  show V c main_v46 _ = V c main_v46 _
  congr 1
  funext a
  apply Fin.ext
  match a with
  | ⟨0, _⟩ => show win2_10.index t 0 * 1 + 1 * (i 0).val = (i 0).val; rw [(hi t).1]; omega
  | ⟨1, _⟩ => show win2_10.index t 1 * 256 + 1 * (i 1).val = (i 1).val; rw [(hi t).2]; omega

/-- The squared lengths of the queries. -/
abbrev aq2 (c : Dev nD) : S16x1x2048.Idx → EReal := V c main_v5

/-- The padded points. -/
abbrev ap (c : Dev nD) : S8192x8.Idx → EReal := V c main_v10

/-- The padded queries. -/
abbrev aq (c : Dev nD) : S32768x8.Idx → EReal := V c main_v8

/-- The second linear layer. -/
abbrev ay2 (c : Dev nD) : S8192x256.Idx → EReal := V c main_v14_0

/-- The first scale row. -/
abbrev asc1 (c : Dev nD) : S1x256.Idx → EReal := V c main_v29

/-- The first shift row. -/
abbrev ash1 (c : Dev nD) : S1x256.Idx → EReal := V c main_v30

/-- The second scale row. -/
abbrev asc2 (c : Dev nD) : S1x256.Idx → EReal := V c main_v45

/-- The second shift row. -/
abbrev ash2 (c : Dev nD) : S1x256.Idx → EReal := V c main_v46

/-- The distance of query `r` and point `j` of its batch, from the arrays that region 2 reads. -/
def kdist (c : Dev nD) (r : Fin 32768) (j : Fin 1024) : EReal :=
  max ((aq2 V c (ix3 ⟨r.val / 2048, by omega⟩ 0 ⟨r.val % 2048, by omega⟩)
      + ap V c (ix2 ⟨1024 * (r.val / 4096) + j.val, by omega⟩ 3))
    + ∑ k : Fin 8, ap V c (ix2 ⟨1024 * (r.val / 4096) + j.val, by omega⟩ k)
        * aq V c (ix2 r k)) 0

/-- The first features of row `r`, normalised. -/
def kfeat1 (c : Dev nD) (r : Fin 32768) (ch : Fin 256) : EReal :=
  max (lin (n := 32768) (k := 256) (V c main_arg1) (V c main_arg4) (V c main_v47) r ch
    * asc1 V c (ix2 0 ch) + ash1 V c (ix2 0 ch)) 0

/-- The second features of row `r`, normalised. -/
def kfeat2 (c : Dev nD) (r : Fin 8192) (ch : Fin 256) : EReal :=
  max (ay2 V c (ix2 r ch)
    * asc2 V c (ix2 0 ch) + ash2 V c (ix2 0 ch)) 0

/-- The block that point `t` stores. -/
def oblk (c : Dev nD) (t : Fin cfg2.N) : Vec Ideal S2048x256 .f32 :=
  out2_11 (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t)

/-- The distances of a block are those of its rows. -/
theorem dist_blk (c : Dev nD) (t : Fin cfg2.N) (p : Fin 2048) (r : Fin 32768) (hr : r.val = 2048 * t.val + p.val) (j : Fin 1024) :
    k2_pay6 (iblk2 V c 3 t) (iblk2 V c 4 t) (iblk2 V c 5 t) (ix2 j p) = kdist V c r j := by
  have ht : t.val < 16 := t.isLt.trans_eq N_2
  have hp := p.isLt
  have e1 : r.val / 2048 = t.val := by omega
  have e2 : r.val % 2048 = p.val := by omega
  have e3 : r.val / 4096 = t.val / 2 := by omega
  rw [k2_pay6_apply]
  unfold kdist
  have hb : 1024 * (t.val / 2) + j.val < 8192 := by omega
  have er : r = ⟨2048 * t.val + p.val, hr ▸ r.isLt⟩ := Fin.ext hr
  simp only [iblk2_5_eq V c t p ht, iblk2_4_eq V c t j _ hb, iblk2_3_eq V c t p _ (hr ▸ r.isLt), e1, e2, e3, ← er]

/-- That block, as one payload of what it reads. -/
theorem oblk_eq (c : Dev nD) (t : Fin cfg2.N) : oblk V c t
    = k2_pay1 (k2_pay2 (iblk2 V c 0 t) (iblk2 V c 1 t) (iblk2 V c 2 t) (iblk2 V c 7 t) (iblk2 V c 8 t))
        (k2_pay3 (iblk2 V c 6 t) (iblk2 V c 9 t) (iblk2 V c 10 t))
        (k2_pay6 (iblk2 V c 3 t) (iblk2 V c 4 t) (iblk2 V c 5 t)) (near3 (iblk2 V c 3 t) (iblk2 V c 4 t) (iblk2 V c 5 t))
        (k2_pay96 (q72 (iblk2 V c 3 t) (iblk2 V c 4 t) (iblk2 V c 5 t)) (q73 (iblk2 V c 3 t) (iblk2 V c 4 t) (iblk2 V c 5 t))
          (q75 (iblk2 V c 3 t) (iblk2 V c 4 t) (iblk2 V c 5 t)) (q76 (iblk2 V c 3 t) (iblk2 V c 4 t) (iblk2 V c 5 t))
          (q77 (iblk2 V c 3 t) (iblk2 V c 4 t) (iblk2 V c 5 t)) (q78 (iblk2 V c 3 t) (iblk2 V c 4 t) (iblk2 V c 5 t))) :=
  out2_11_eq _ _ _ _ _ _ _ _ _ _ _

theorem after_oblk (c : Dev nD) (t : Fin cfg2.N) : (dat2 V c).after 11 t = oblk V c t := after2_11 V c t

attribute [irreducible] oblk

/-- The point whose block holds row `r` of the result. -/
def ptOf (r : ℕ) (hr : r < 32768) : Fin cfg2.N := ⟨r / 2048, by rw [show cfg2.N = 16 from N_2]; omega⟩

theorem ptOf_val (r : ℕ) (hr : r < 32768) : (ptOf r hr).val = r / 2048 := rfl

/-- The place of row `r` in its block. -/
def inBlk (r : ℕ) : Fin 2048 := ⟨r % 2048, Nat.mod_lt _ (by decide)⟩

theorem inBlk_val (r : ℕ) : (inBlk r).val = r % 2048 := rfl

/-- What the result array holds in the end, at row `r`. -/
def fusedRow (c : Dev nD) (r : ℕ) (hr : r < 32768) (ch : Fin 256) : EReal := oblk V c (ptOf r hr) (ix2 (inBlk r) ch)

/-- What the result array holds in the end. -/
def fused (c : Dev nD) : S32768x256.Idx → EReal := fun i => fusedRow V c (i 0).val (i 0).isLt (i 1)

/-- The first features of a block are those of its rows. -/
theorem feat1_blk (c : Dev nD) (t : Fin cfg2.N) (p : Fin 2048) (r : Fin 32768) (hr : r.val = 2048 * t.val + p.val) (ch : Fin 256) :
    k2_pay2 (iblk2 V c 0 t) (iblk2 V c 1 t) (iblk2 V c 2 t) (iblk2 V c 7 t) (iblk2 V c 8 t) (ix2 p ch) = kfeat1 V c r ch := by
  have er : r = ⟨2048 * t.val + p.val, hr ▸ r.isLt⟩ := Fin.ext hr
  rw [k2_pay2_apply]
  unfold kfeat1 lin
  rw [iblk2_7_eq, iblk2_8_eq, iblk2_2_eq]
  congr 4
  exact Finset.sum_congr rfl fun k _ => by
    rw [iblk2_0_eq V c t p k (hr ▸ r.isLt), iblk2_1_eq, ← er]

/-- The second features of a block are those of its batch. -/
theorem feat2_blk (c : Dev nD) (t : Fin cfg2.N) (j : Fin 1024) (m : Fin 8192) (hm : m.val = 1024 * (t.val / 2) + j.val) (ch : Fin 256) :
    k2_pay3 (iblk2 V c 6 t) (iblk2 V c 9 t) (iblk2 V c 10 t) (ix2 j ch) = kfeat2 V c m ch := by
  have er : m = ⟨1024 * (t.val / 2) + j.val, hm ▸ m.isLt⟩ := Fin.ext hm
  rw [k2_pay3_apply]
  unfold kfeat2
  rw [iblk2_9_eq, iblk2_10_eq, iblk2_6_eq V c t j ch (hm ▸ m.isLt), ← er]

/-- An entry of a block's result. -/
theorem oblk_apply (c : Dev nD) (t : Fin cfg2.N) (p : Fin 2048) (r : Fin 32768) (hr : r.val = 2048 * t.val + p.val) (ch : Fin 256) :
    ∃ a1 a2 a3 : EReal, Top3 a1 a2 a3 (Cert.Val.count (kdist V c r)) ∧
    oblk V c t (ix2 p ch) = kfeat1 V c r ch + ∑ j : Fin 1024,
      ((if kdist V c r j ≤ a3 then Ideal.div 1 (kdist V c r j + e8) else 0)
        * Ideal.div 1 (Ideal.div 1 (a1 + e8) + Ideal.div 1 (a2 + e8) + Ideal.div 1 (a3 + e8)))
        * kfeat2 V c ⟨1024 * (r.val / 4096) + j.val, by omega⟩ ch := by
  obtain ⟨a1, a2, a3, hT, h⟩ := block_apply
    (k2_pay2 (iblk2 V c 0 t) (iblk2 V c 1 t) (iblk2 V c 2 t) (iblk2 V c 7 t) (iblk2 V c 8 t))
    (k2_pay3 (iblk2 V c 6 t) (iblk2 V c 9 t) (iblk2 V c 10 t)) (iblk2 V c 3 t) (iblk2 V c 4 t) (iblk2 V c 5 t) p ch
    (kdist V c r) (fun j => dist_blk V c t p r hr j)
  refine ⟨a1, a2, a3, hT, ?_⟩
  rw [oblk_eq]
  refine h.trans ?_
  rw [feat1_blk V c t p r hr ch]
  refine congrArg (kfeat1 V c r ch + ·) (Finset.sum_congr rfl fun j _ => ?_)
  rw [feat2_blk V c t j ⟨1024 * (r.val / 4096) + j.val, by omega⟩ (by have := p.isLt; dsimp only; omega) ch]

/-- An entry of the result: the first features plus the sum of the second features over the points that are no further than
    the third nearest, each weighted by its reciprocal distance relative to those of the three nearest. -/
theorem fused_apply (c : Dev nD) (r : Fin 32768) (ch : Fin 256) : ∃ a1 a2 a3 : EReal, Top3 a1 a2 a3 (Cert.Val.count (kdist V c r)) ∧
    fused V c (ix2 r ch) = kfeat1 V c r ch + ∑ j : Fin 1024,
      ((if kdist V c r j ≤ a3 then Ideal.div 1 (kdist V c r j + e8) else 0)
        * Ideal.div 1 (Ideal.div 1 (a1 + e8) + Ideal.div 1 (a2 + e8) + Ideal.div 1 (a3 + e8)))
        * kfeat2 V c ⟨1024 * (r.val / 4096) + j.val, by omega⟩ ch :=
  oblk_apply V c (ptOf r.val r.isLt) (inBlk r.val) r (by rw [ptOf_val, inBlk_val]; omega) ch

/-- A block's entry is the result's entry in its row. -/
theorem oblk_row (c : Dev nD) (t : Fin cfg2.N) (p : Fin 2048) (ch : Fin 256) (h : 2048 * t.val + p.val < 32768) :
    oblk V c t (ix2 p ch) = fusedRow V c (2048 * t.val + p.val) h ch := by
  have hp := p.isLt
  have e1 : ptOf (2048 * t.val + p.val) h = t := Fin.ext (by rw [ptOf_val]; omega)
  have e2 : inBlk (2048 * t.val + p.val) = p := Fin.ext (by rw [inBlk_val]; omega)
  unfold fusedRow
  rw [e1, e2]

/-- The rows and columns of the block that a point writes back. -/
theorem fused_index : ∀ t : Fin grid2.N, win2_11.index t 0 = t.val ∧ win2_11.index t 1 = 0
    ∧ win2_11.xsize (grid2.coords t) 0 = 2048 ∧ win2_11.xsize (grid2.coords t) 1 = 256 := by decide +kernel

/-- Every point writes back its block of the result. -/
theorem fused_flushed (c : Dev nD) (t : Fin cfg2.N) (hf : (cfg2.win 11).flush t = true) :
    (dat2 V c).flushed 11 t = ((cfg2.win 11).blk t).view.read (Elt Ideal) (fused V c) := by
  show (cfg2.win 11).cut (grid2.coords t) ((dat2 V c).after 11 t) = _
  rw [after_oblk]
  funext j
  rw [View.read_apply]
  have hp : (j 0 : Nat) < 2048 := (j 0).isLt
  have hj : (j 1 : Nat) < 256 := (j 1).isLt
  show oblk V c t j = fused V c _
  have e0 : win2_11.index t 0 * 2048 + 1 * (j 0).val = 2048 * t.val + (j 0).val := by rw [(fused_index t).1]; omega
  have e1 : win2_11.index t 1 * 256 + 1 * (j 1).val = (j 1).val := by rw [(fused_index t).2.1]; omega
  have ej : j = ix2 (n0 := 2048) (n1 := 256) ⟨(j 0).val, hp⟩ ⟨(j 1).val, hj⟩ := by
    funext a; match a with | ⟨0, _⟩ => rfl | ⟨1, _⟩ => rfl
  have htl : t.val < 16 := t.isLt.trans_eq N_2
  have hr : 2048 * t.val + (j 0).val < 32768 := by omega
  refine (congrArg (oblk V c t) ej).trans ((oblk_row V c t ⟨(j 0).val, hp⟩ ⟨(j 1).val, hj⟩ hr).trans ?_)
  show fusedRow V c _ _ _ = fusedRow V c _ _ _
  congr 1
  · exact e0.symm
  · exact Fin.ext e1.symm

/-- Every entry of the result array lies in the block of its row. -/
theorem fused_mem (t : Fin grid2.N) (i : S32768x256.Idx) (ht : t.val = (i 0 : Nat) / 2048) :
    i ∈ ((View.whole main_v48).slice (win2_11.rect t)).set := by
  rw [View.set_slice_whole, Rect.mem_set_unit]
  obtain ⟨i0, i1, x0, x1⟩ := fused_index t
  have h1 : (i 1 : Nat) < 256 := (i 1).isLt
  intro a
  match a with
  | ⟨0, _⟩ => show win2_11.index t 0 * 2048 ≤ (i 0 : Nat) ∧ (i 0 : Nat) < win2_11.index t 0 * 2048 + win2_11.xsize (grid2.coords t) 0
              rw [x0, i0]; omega
  | ⟨1, _⟩ => show win2_11.index t 1 * 256 ≤ (i 1 : Nat) ∧ (i 1 : Nat) < win2_11.index t 1 * 256 + win2_11.xsize (grid2.coords t) 1
              rw [x1, i1]; omega

/-- So the result array ends holding the result. -/
theorem fused_final (c : Dev nD) : (dat2 V c).arrAt 11 cfg2.N = fused V c :=
  (dat2 V c).arrAt_eq_of_cover 11 (fused V c) (fused_flushed V c) fun i =>
    have h0 : ((show S32768x256.Idx from i) 0 : Nat) < 32768 := ((show S32768x256.Idx from i) 0).isLt
    ⟨⟨((show S32768x256.Idx from i) 0 : Nat) / 2048, by rw [show cfg2.N = 16 from N_2]; omega⟩, flush2_11 _, fused_mem _ i rfl⟩

end

end Cert.KernelIdeal.Val
-- ==== Proof.Value.Bn.lean ====
/- Batch normalisation of a column of real numbers: the kernel's affine form and the reference's form agree. -/
module

public import Idealize.ShloMosaic.Lib.Pipeline.Value
public import Idealize.ShloMosaic.PureOps.Ideal.Laws

@[expose] public section

noncomputable section

namespace Cert.Val

open Idealize.ShloMosaic

/-- A sum of real numbers, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two real numbers. -/
theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The reciprocal square root of a positive real number. -/
theorem rsqrt_real (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- The square root of a positive real number. -/
theorem sqrt_real (x : ℝ) (hx : 0 < x) : Ideal.sqrt (x : EReal) = ((Real.sqrt x : ℝ) : EReal) := by
  show (if x < 0 then (⊥ : EReal) else ((Real.sqrt x : ℝ) : EReal)) = _
  rw [if_neg (not_lt.mpr hx.le)]

/-- The mean of the squares less the square of the mean is the mean of the squared deviations. -/
theorem variance_eq (n : ℕ) (hn : 0 < n) (y : Fin n → ℝ) :
    (∑ i, y i * y i) / n - (∑ i, y i) / n * ((∑ i, y i) / n)
      = (∑ i, (y i - (∑ i, y i) / n) * (y i - (∑ i, y i) / n)) / n := by
  have h0 : (n : ℝ) ≠ 0 := by exact_mod_cast hn.ne'
  set m := (∑ i, y i) / (n : ℝ) with hm
  have hs : ∑ i, y i = m * n := by rw [hm]; field_simp
  have e : ∑ i, (y i - m) * (y i - m) = (∑ i, y i * y i) - 2 * m * (∑ i, y i) + n * (m * m) := by
    rw [Finset.mul_sum, ← Finset.sum_sub_distrib]
    rw [show (n : ℝ) * (m * m) = ∑ _i : Fin n, m * m by rw [Finset.sum_const, Finset.card_univ, Fintype.card_fin, nsmul_eq_mul]]
    rw [← Finset.sum_add_distrib]
    exact Finset.sum_congr rfl fun i _ => by ring
  rw [e, hs]
  field_simp
  ring

/-- Adding to a real number the difference of `b` and a real number. -/
theorem add_sub_swap (a c : ℝ) (b : EReal) : (a : EReal) + (b - (c : EReal)) = ((a - c : ℝ) : EReal) + b := by
  induction b with
  | bot => simp
  | top => rw [EReal.top_sub_coe, EReal.coe_add_top, EReal.coe_add_top]
  | coe b =>
    rw [← EReal.coe_sub, ← EReal.coe_add, ← EReal.coe_add]
    congr 1
    ring

/-- The scale that the kernel takes from the sums of a column. -/
def scaleOf (s ss N eps g : EReal) : EReal :=
  g * Ideal.rsqrt ((Ideal.div ss N - Ideal.div s N * Ideal.div s N) + eps)

/-- The shift that the kernel takes from the sums of a column. -/
def shiftOf (s ss N eps g be : EReal) : EReal := be - Ideal.div s N * scaleOf s ss N eps g

/-- The reference's normalised entry `r` of the column `y`. -/
def bnRef {n : ℕ} (y : Fin n → EReal) (N eps g be : EReal) (r : Fin n) : EReal :=
  Ideal.div (g * (y r - Ideal.div (0 + ∑ i, y i) N))
    (Ideal.sqrt (Ideal.div (0 + ∑ i, (y i - Ideal.div (0 + ∑ i, y i) N) * (y i - Ideal.div (0 + ∑ i, y i) N)) N + eps)) + be

/-- Scaled and shifted, a real column's entry is the reference's normalised entry. -/
theorem bn_eq {n : ℕ} (hn : 0 < n) (y : Fin n → EReal) (hy : ∀ i, ∃ x : ℝ, y i = x) (N eps g be : EReal)
    (hN : N = ((n : ℝ) : EReal)) (heps : ∃ e : ℝ, 0 < e ∧ eps = e) (hg : ∃ x : ℝ, g = x) (r : Fin n) :
    y r * scaleOf (∑ i, y i) (∑ i, y i * y i) N eps g + shiftOf (∑ i, y i) (∑ i, y i * y i) N eps g be
      = bnRef y N eps g be r := by
  choose z hz using hy
  obtain rfl : y = fun i => ((z i : ℝ) : EReal) := funext hz
  obtain ⟨e, he, rfl⟩ := heps
  obtain ⟨g, rfl⟩ := hg
  subst hN
  have h0 : (n : ℝ) ≠ 0 := by exact_mod_cast hn.ne'
  have hv := variance_eq n hn z
  have hpos : 0 ≤ (∑ i, (z i - (∑ i, z i) / n) * (z i - (∑ i, z i) / n)) / (n : ℝ) :=
    div_nonneg (Finset.sum_nonneg fun i _ => mul_self_nonneg _) (by positivity)
  unfold shiftOf scaleOf bnRef
  simp only [zero_add, ← EReal.coe_mul, coe_sum, div_real _ _ h0, ← EReal.coe_sub, ← EReal.coe_add]
  rw [hv]
  rw [rsqrt_real _ (by linarith), sqrt_real _ (by linarith)]
  have hs : Real.sqrt ((∑ i, (z i - (∑ i, z i) / n) * (z i - (∑ i, z i) / n)) / n + e) ≠ 0 :=
    (Real.sqrt_pos.mpr (by linarith)).ne'
  rw [div_real _ _ hs]
  simp only [← EReal.coe_mul]
  rw [add_sub_swap]
  congr 2
  generalize Real.sqrt _ = u at hs ⊢
  field_simp

/-- The bits of `1e-5` are a positive real number. -/
theorem eps5 : ∃ e : ℝ, 0 < e ∧ Ideal.ofBits .f32 0x3727C5AC#32 = e := by
  refine ⟨_, ?_, by simp [Ideal.ofBits, Ideal.ieee]; rfl⟩
  positivity

/-- The bits of `1e-8` are a positive real number. -/
theorem eps8 : ∃ e : ℝ, 0 < e ∧ Ideal.ofBits .f32 0x322BCC77#32 = e := by
  refine ⟨_, ?_, by simp [Ideal.ofBits, Ideal.ieee]; rfl⟩
  positivity

/-- The bits of the first number of rows. -/
theorem n1_bits : Ideal.ofBits .f32 0x47000000#32 = (((32768 : ℕ) : ℝ) : EReal) := by
  simp [Ideal.ofBits, Ideal.ieee]
  rw [← EReal.coe_mul]
  norm_num

/-- The bits of the second number of rows. -/
theorem n2_bits : Ideal.ofBits .f32 0x46000000#32 = (((8192 : ℕ) : ℝ) : EReal) := by
  simp [Ideal.ofBits, Ideal.ieee]
  rw [← EReal.coe_mul]
  norm_num

/-- The bits of two. -/
theorem two_bits : Ideal.ofBits .f32 0x40000000#32 = ((2 : ℝ) : EReal) := by
  simp [Ideal.ofBits, Ideal.ieee]
  rw [← EReal.coe_mul]
  norm_num

/-- The bits of minus two. -/
theorem neg_two_bits : Ideal.ofBits .f32 0xC0000000#32 = ((-2 : ℝ) : EReal) := by
  simp [Ideal.ofBits, Ideal.ieee]
  rw [← EReal.coe_mul]
  norm_num

end Cert.Val
-- ==== Proof.Value.Host.lean ====
/- What the host computes between the regions, read at an entry. -/
module

public import proofs.«01_k».proof.Proof.Ideal.Run
public import proofs.«01_k».proof.Proof.Value.Spec
public import proofs.«01_k».proof.Proof.Value.Bn
public import Idealize.ShloMosaic.Lib.Pointwise
public import Idealize.ShloMosaic.Lib.StableHlo.Run

@[expose] public section

noncomputable section

namespace Cert.KernelIdeal.Val

open Idealize.ShloMosaic Idealize.ShloMosaic.TcCoe Cert.KernelIdeal Cert.KernelIdeal.Gen Cert.Val
open Idealize.SL.Sem

/-- A buffer's contents, as numbers by index. -/
abbrev arr (s : Shape) (x : s.Idx → EReal) : s.Idx → EReal := x

section

variable (V : Valuation τ sig (Elt Ideal))

/-- The squared lengths of the queries. -/
theorem v5_after (t : Fin 16) (q : Fin 2048) :
    arr S16x1x2048 (StableHlo.after hostOps0 V (Proc.devRef .tc main_v5)) (ix3 t 0 q)
      = ∑ k : Fin 3, arr S32768x3 (V (Proc.devRef .tc main_arg0)) (ix2 ⟨2048 * t.val + q.val, by omega⟩ k)
          * arr S32768x3 (V (Proc.devRef .tc main_arg0)) (ix2 ⟨2048 * t.val + q.val, by omega⟩ k) := by
  unfold arr
  simp only [hostOps0]
  after_results_simp
  pointwise
  refine Finset.sum_congr rfl fun k _ => ?_
  have e : ∀ (h1 : t.val * 2048 + q.val < 32768) (h2 : 2048 * t.val + q.val < 32768),
      (⟨t.val * 2048 + q.val, h1⟩ : Fin 32768) = ⟨2048 * t.val + q.val, h2⟩ := fun _ _ => Fin.ext (by dsimp only; omega)
  rw [e]

/-- The squared lengths of the points. -/
theorem v4_after (r : Fin 8192) :
    arr S8192x1 (StableHlo.after hostOps0 V (Proc.devRef .tc main_v4)) (ix2 r 0)
      = ∑ k : Fin 3, arr S8192x3 (V (Proc.devRef .tc main_arg2)) (ix2 r k)
          * arr S8192x3 (V (Proc.devRef .tc main_arg2)) (ix2 r k) := by
  unfold arr
  simp only [hostOps0]
  after_results_simp
  pointwise

/-- The queries, times minus two. -/
theorem v7_after (r : Fin 32768) (k : Fin 3) :
    arr S32768x3 (StableHlo.after hostOps0 V (Proc.devRef .tc main_v7)) (ix2 r k)
      = Ideal.ofBits .f32 0xC0000000#32 * arr S32768x3 (V (Proc.devRef .tc main_arg0)) (ix2 r k) := by
  unfold arr
  simp only [hostOps0]
  after_results_simp
  pointwise

/-- The integer that the queries are padded with. -/
theorem c_after : (StableHlo.after hostOps0 V (Proc.devRef .tc main_c) : S_.Idx → BitVec 32) = fun _ => 0#32 := by
  simp only [hostOps0]
  after_results_simp
  rfl

/-- The padded queries. -/
theorem v8_after (r : Fin 32768) (k : Fin 8) (h : (V (Proc.devRef .tc main_c) : S_.Idx → BitVec 32) = fun _ => 0#32) :
    arr S32768x8 (StableHlo.after hostOps0_1 V (Proc.devRef .tc main_v8)) (ix2 r k)
      = if hk : k.val < 3 then arr S32768x3 (V (Proc.devRef .tc main_v7)) (ix2 r ⟨k.val, hk⟩) else 0 := by
  unfold arr
  simp only [hostOps0_1, StableHlo.TRef.binary, StableHlo.TRef.unary, StableHlo.TRef.toBuf, StableHlo.TRef.ofBuf, cast_eq]
  after_results_simp
  pointwise
  split_ifs with hk
  · rfl
  · rw [h]
    show (((0#32 : BitVec 32).toInt : ℝ) : EReal) = 0
    simp

/-- The padded points. -/
theorem v10_after (r : Fin 8192) (k : Fin 8) :
    arr S8192x8 (StableHlo.after hostOps0_2 V (Proc.devRef .tc main_v10)) (ix2 r k)
      = if hk : k.val < 3 then arr S8192x3 (V (Proc.devRef .tc main_arg2)) (ix2 r ⟨k.val, hk⟩)
        else if k.val = 3 then arr S8192x1 (V (Proc.devRef .tc main_v4)) (ix2 r 0) else 0 := by
  unfold arr
  simp only [hostOps0_2]
  after_results_simp
  pointwise
  have z : ∀ i, (StableHlo.unary main_cst_2 main_v9 (broadcastInDim S8192x4 ![] bcast_S_S8192x4 : (⟨S_, .f32⟩ : BufTy).Contents (Elt Ideal) → (⟨S8192x4, .f32⟩ : BufTy).Contents (Elt Ideal))).result
      ((StableHlo.nullary main_cst_2 (constant (F := Ideal) S_ .f32 0x00000000#32 : (⟨S_, .f32⟩ : BufTy).Contents (Elt Ideal))).result V) (Proc.devRef .tc main_v9) i = (0 : EReal) := by
    intro i
    refine (congrFun (StableHlo.unary_result _ _ _ _ _ _) i).trans ?_
    rw [StableHlo.nullary_result]
    pointwise
  by_cases h1 : k.val < 3
  · simp only [h1, dif_pos]
  · by_cases h3 : k.val = 3
    · have h4 : k.val - 3 < 1 := by omega
      simp only [h1, h3, dif_neg, not_false_eq_true, if_pos]
      rfl
    · have h4 : ¬ k.val - 3 < 1 := by omega
      simp only [h1, h3, h4, dif_neg, not_false_eq_true, if_neg]
      exact z _

/-- The first bias as a row. -/
theorem v11_after (j : Fin 256) : arr S1x256 (StableHlo.after hostOps0_2 V (Proc.devRef .tc main_v11)) (ix2 0 j)
    = arr S256 (V (Proc.devRef .tc main_arg5)) (ix1 j) := by
  unfold arr
  simp only [hostOps0_2]
  after_results_simp
  pointwise

/-- The second bias as a row. -/
theorem v13_after (j : Fin 256) : arr S1x256 (StableHlo.after hostOps1 V (Proc.devRef .tc main_v13)) (ix2 0 j)
    = arr S256 (V (Proc.devRef .tc main_arg9)) (ix1 j) := by
  unfold arr
  simp only [hostOps1]
  after_results_simp
  pointwise

/-- The first scale row. -/
theorem v29_after (j : Fin 256) : arr S1x256 (StableHlo.after hostOps2 V (Proc.devRef .tc main_v29)) (ix2 0 j)
    = scaleOf (arr S1x256 (V (Proc.devRef .tc main_v12_0)) (ix2 0 j)) (arr S1x256 (V (Proc.devRef .tc main_v12_1)) (ix2 0 j))
        (Ideal.ofBits .f32 0x47000000#32) (Ideal.ofBits .f32 0x3727C5AC#32) (arr S256 (V (Proc.devRef .tc main_arg6)) (ix1 j)) := by
  unfold arr scaleOf
  simp only [hostOps2]
  after_results_simp
  pointwise

/-- The first shift row. -/
theorem v30_after (j : Fin 256) : arr S1x256 (StableHlo.after hostOps2 V (Proc.devRef .tc main_v30)) (ix2 0 j)
    = shiftOf (arr S1x256 (V (Proc.devRef .tc main_v12_0)) (ix2 0 j)) (arr S1x256 (V (Proc.devRef .tc main_v12_1)) (ix2 0 j))
        (Ideal.ofBits .f32 0x47000000#32) (Ideal.ofBits .f32 0x3727C5AC#32) (arr S256 (V (Proc.devRef .tc main_arg6)) (ix1 j))
        (arr S256 (V (Proc.devRef .tc main_arg7)) (ix1 j)) := by
  unfold arr shiftOf scaleOf
  simp only [hostOps2]
  after_results_simp
  pointwise

/-- The second scale row. -/
theorem v45_after (j : Fin 256) : arr S1x256 (StableHlo.after hostOps2 V (Proc.devRef .tc main_v45)) (ix2 0 j)
    = scaleOf (arr S1x256 (V (Proc.devRef .tc main_v14_1)) (ix2 0 j)) (arr S1x256 (V (Proc.devRef .tc main_v14_2)) (ix2 0 j))
        (Ideal.ofBits .f32 0x46000000#32) (Ideal.ofBits .f32 0x3727C5AC#32) (arr S256 (V (Proc.devRef .tc main_arg10)) (ix1 j)) := by
  unfold arr scaleOf
  simp only [hostOps2]
  after_results_simp
  pointwise

/-- The second shift row. -/
theorem v46_after (j : Fin 256) : arr S1x256 (StableHlo.after hostOps2 V (Proc.devRef .tc main_v46)) (ix2 0 j)
    = shiftOf (arr S1x256 (V (Proc.devRef .tc main_v14_1)) (ix2 0 j)) (arr S1x256 (V (Proc.devRef .tc main_v14_2)) (ix2 0 j))
        (Ideal.ofBits .f32 0x46000000#32) (Ideal.ofBits .f32 0x3727C5AC#32) (arr S256 (V (Proc.devRef .tc main_arg10)) (ix1 j))
        (arr S256 (V (Proc.devRef .tc main_arg11)) (ix1 j)) := by
  unfold arr shiftOf scaleOf
  simp only [hostOps2]
  after_results_simp
  pointwise

/-- The first bias as a row, once more. -/
theorem v47_after (j : Fin 256) : arr S1x256 (StableHlo.after hostOps2 V (Proc.devRef .tc main_v47)) (ix2 0 j)
    = arr S256 (V (Proc.devRef .tc main_arg5)) (ix1 j) := by
  unfold arr
  simp only [hostOps2]
  after_results_simp
  pointwise

end

end Cert.KernelIdeal.Val
-- ==== Proof.Value.Goal.lean ====
/- The two forms of the result, the kernel's and the reference's, and their equality. -/
module

public import proofs.«01_k».proof.Proof.Value.Spec
public import proofs.«01_k».proof.Proof.Value.Bn
public import proofs.«01_k».proof.Proof.Value.Top

@[expose] public section

noncomputable section

namespace Cert.Val

open Idealize.ShloMosaic

/-- A matrix of numbers. -/
abbrev Mat (n k : ℕ) := (⟨2, ![n, k]⟩ : Shape).Idx → EReal

/-- A vector of numbers. -/
abbrev Row (n : ℕ) := (⟨1, ![n]⟩ : Shape).Idx → EReal

/-- One entry of a linear layer whose bias is a vector. -/
def linv {n k : ℕ} (x : Mat n k) (w : Mat k 256) (b : Row 256) (r : Fin n) (j : Fin 256) : EReal :=
  (∑ c : Fin k, x (ix2 r c) * w (ix2 c j)) + b (ix1 j)

/-- The number that both programs add to the variance. -/
abbrev c5 : EReal := Ideal.ofBits .f32 0x3727C5AC#32

/-- The number that both programs add to a distance. -/
abbrev c8 : EReal := Ideal.ofBits .f32 0x322BCC77#32

/-- The kernel's normalised and rectified entry of a column. -/
def actK {n : ℕ} (y : Fin n → EReal) (N g be : EReal) (r : Fin n) : EReal :=
  max (y r * scaleOf (∑ i, y i) (∑ i, y i * y i) N c5 g + shiftOf (∑ i, y i) (∑ i, y i * y i) N c5 g be) 0

/-- The reference's normalised and rectified entry of a column. -/
def actR {n : ℕ} (y : Fin n → EReal) (N g be : EReal) (r : Fin n) : EReal := max (bnRef y N c5 g be r) 0

/-- The squared length of a point. -/
def sq3 {n : ℕ} (P : Mat n 3) (r : Fin n) : EReal := ∑ k : Fin 3, P (ix2 r k) * P (ix2 r k)

/-- The row of the `j`-th point in the batch of query `r`. -/
def pt (r : Fin 32768) (j : Fin 1024) : Fin 8192 := ⟨1024 * (r.val / 4096) + j.val, by omega⟩

/-- The kernel's squared distance of a query and a point. -/
def dK (P : Mat 32768 3) (Q : Mat 8192 3) (r : Fin 32768) (j : Fin 1024) : EReal :=
  max ((sq3 P r + sq3 Q (pt r j)) + ∑ k : Fin 3, Q (ix2 (pt r j) k) * (Ideal.ofBits .f32 0xC0000000#32 * P (ix2 r k))) 0

/-- The reference's squared distance of a query and a point. -/
def dR (P : Mat 32768 3) (Q : Mat 8192 3) (r : Fin 32768) (j : Fin 1024) : EReal :=
  max ((sq3 P r + sq3 Q (pt r j)) - Ideal.ofBits .f32 0x40000000#32 * ∑ k : Fin 3, P (ix2 r k) * Q (ix2 (pt r j) k)) 0

/-- The weight of a point before the weights are scaled to sum one. -/
def wt (d : EReal) : EReal := Ideal.div 1 (d + c8)

/-- The kernel's interpolation: every point no farther than the third distance takes part. -/
def interpK (d G : Fin 1024 → EReal) (a1 a2 a3 : EReal) : EReal :=
  ∑ j : Fin 1024, ((if d j ≤ a3 then wt (d j) else 0) * Ideal.div 1 (wt a1 + wt a2 + wt a3)) * G j

/-- The reference's interpolation: the first three points of an order `σ` take part. -/
def interpR (d G : Fin 1024 → EReal) (σ : Fin 1024 → Fin 1024) : EReal :=
  ∑ k : Fin 3, G (σ ⟨k.val, by omega⟩) * Ideal.div (wt (d (σ ⟨k.val, by omega⟩))) (∑ l : Fin 3, wt (d (σ ⟨l.val, by omega⟩)))

/-- Numbers that are all real. -/
def IsReal {ι : Type} (f : ι → EReal) : Prop := ∀ i, ∃ x : ℝ, f i = x

theorem linv_real {n k : ℕ} {x : Mat n k} {w : Mat k 256} {b : Row 256} (hx : IsReal x) (hw : IsReal w) (hb : IsReal b)
    (r : Fin n) (j : Fin 256) : ∃ y : ℝ, linv x w b r j = y := by
  choose x' hx using hx
  choose w' hw using hw
  choose b' hb using hb
  refine ⟨(∑ c : Fin k, x' (ix2 r c) * w' (ix2 c j)) + b' (ix1 j), ?_⟩
  unfold linv
  simp only [hx, hw, hb, ← EReal.coe_mul]
  rw [coe_sum, EReal.coe_add]

/-- The two normalised entries of a real column agree. -/
theorem act_eq {n : ℕ} (hn : 0 < n) (y : Fin n → EReal) (hy : IsReal y) (N g be : EReal) (hN : N = ((n : ℝ) : EReal))
    (hg : ∃ x : ℝ, g = x) (r : Fin n) : actK y N g be r = actR y N g be r := by
  unfold actK actR
  rw [bn_eq hn y hy N c5 g be hN eps5 hg r]

/-- A real number rectified is a real number, at least zero. -/
theorem max_zero_real (x : ℝ) : ∃ y : ℝ, 0 ≤ y ∧ max (x : EReal) 0 = y := by
  rcases le_total x 0 with h | h
  · exact ⟨0, le_refl _, max_eq_right (by exact_mod_cast h)⟩
  · exact ⟨x, h, max_eq_left (by exact_mod_cast h)⟩

/-- Real points have the same real distance in both forms. -/
theorem dist_eq {P : Mat 32768 3} {Q : Mat 8192 3} (hP : IsReal P) (hQ : IsReal Q) (r : Fin 32768) (j : Fin 1024) :
    dK P Q r j = dR P Q r j ∧ ∃ x : ℝ, 0 ≤ x ∧ dR P Q r j = x := by
  choose P' hP using hP
  choose Q' hQ using hQ
  unfold dK dR sq3
  rw [two_bits, neg_two_bits]
  simp only [hP, hQ, ← EReal.coe_mul, coe_sum, ← EReal.coe_add, ← EReal.coe_sub]
  refine ⟨?_, ?_⟩
  · congr 3
    rw [← neg_mul, Finset.mul_sum]
    exact Finset.sum_congr rfl fun k _ => by ring
  · exact max_zero_real _

theorem wt_real {d : EReal} (hd : ∃ x : ℝ, 0 ≤ x ∧ d = x) : ∃ w : ℝ, 0 < w ∧ wt d = w := by
  obtain ⟨x, hx, rfl⟩ := hd
  obtain ⟨e, he, h⟩ := eps8
  refine ⟨1 / (x + e), by positivity, ?_⟩
  unfold wt c8
  rw [h, ← EReal.coe_add, ← EReal.coe_one, div_real _ _ (by positivity)]

/-- The two interpolations agree where the fourth distance is larger than the third. -/
theorem interp_eq (d G : Fin 1024 → EReal) (hd : ∀ j, ∃ x : ℝ, 0 ≤ x ∧ d j = x) (σ : Fin 1024 → Fin 1024)
    (hσ : Function.Bijective σ) (hm : ∀ i j, i < j → d (σ i) ≤ d (σ j))
    (hgap : d (σ ⟨2, by decide⟩) < d (σ ⟨3, by decide⟩)) {a1 a2 a3 : EReal} (h : Top3 a1 a2 a3 (count d)) :
    interpK d G a1 a2 a3 = interpR d G σ := by
  obtain ⟨h1, h2, h3⟩ := h.eq_sorted (by decide) σ hσ hm
  unfold interpK interpR
  rw [h1, h2, h3]
  have e : ∀ j, ((if d j ≤ d (σ ⟨2, by decide⟩) then wt (d j) else 0)
        * Ideal.div 1 (wt (d (σ ⟨0, by decide⟩)) + wt (d (σ ⟨1, by decide⟩)) + wt (d (σ ⟨2, by decide⟩)))) * G j
      = if d j ≤ d (σ ⟨2, by decide⟩) then (wt (d j)
        * Ideal.div 1 (wt (d (σ ⟨0, by decide⟩)) + wt (d (σ ⟨1, by decide⟩)) + wt (d (σ ⟨2, by decide⟩)))) * G j else 0 := by
    intro j
    split_ifs
    · rfl
    · rw [zero_mul, zero_mul]
  rw [Finset.sum_congr rfl fun j _ => e j]
  rw [sum_nearest d _ (by decide) σ hσ hm hgap]
  refine Finset.sum_congr rfl fun k _ => ?_
  have hw : ∀ i, ∃ w : ℝ, 0 < w ∧ wt (d (σ i)) = w := fun i => wt_real (hd (σ i))
  choose w hw0 hw using hw
  rw [mul_comm]
  congr 1
  rw [Fin.sum_univ_three]
  simp only [hw, ← EReal.coe_add]
  rw [← EReal.coe_one, div_real, div_real, ← EReal.coe_mul]
  · congr 1
    show w ⟨k.val, _⟩ * (1 / (w ⟨0, _⟩ + w ⟨1, _⟩ + w ⟨2, _⟩)) = w ⟨k.val, _⟩ / (w ⟨0, _⟩ + w ⟨1, _⟩ + w ⟨2, _⟩)
    rw [mul_one_div]
  · have := hw0 ⟨0, by decide⟩; have := hw0 ⟨1, by decide⟩; have := hw0 ⟨2, by decide⟩
    exact ne_of_gt (by show 0 < w ⟨0, _⟩ + w ⟨1, _⟩ + w ⟨2, _⟩; positivity)
  · have := hw0 ⟨0, by decide⟩; have := hw0 ⟨1, by decide⟩; have := hw0 ⟨2, by decide⟩
    exact ne_of_gt (by positivity)

end Cert.Val
-- ==== Proof.Value.Kernel.lean ====
/- The kernel's result as a function of its arguments. -/
module

public import proofs.«01_k».proof.Proof.Value.Stats0
public import proofs.«01_k».proof.Proof.Value.Stats1
public import proofs.«01_k».proof.Proof.Value.Fused2
public import proofs.«01_k».proof.Proof.Value.Host
public import proofs.«01_k».proof.Proof.Value.Goal

@[expose] public section

noncomputable section

namespace Cert.KernelIdeal.Val

open Idealize.ShloMosaic Idealize.ShloMosaic.TcCoe Cert.KernelIdeal Cert.KernelIdeal.Gen Cert.Val
open Idealize.SL.Sem

variable (m : (ℓ : Loc nD τ sig) → Buf (Elt Ideal) ℓ) (ρ : Dev nD → PrngReg) (c : Dev nD)

/-- Argument 0. -/
abbrev A0 : Mat 32768 3 := m ((c : Thread nD τ).loc main_arg0)

/-- Argument 1. -/
abbrev A1 : Mat 32768 256 := m ((c : Thread nD τ).loc main_arg1)

/-- Argument 2. -/
abbrev A2 : Mat 8192 3 := m ((c : Thread nD τ).loc main_arg2)

/-- Argument 3. -/
abbrev A3 : Mat 8192 512 := m ((c : Thread nD τ).loc main_arg3)

/-- Argument 4. -/
abbrev A4 : Mat 256 256 := m ((c : Thread nD τ).loc main_arg4)

/-- Argument 5. -/
abbrev A5 : Row 256 := m ((c : Thread nD τ).loc main_arg5)

/-- Argument 6. -/
abbrev A6 : Row 256 := m ((c : Thread nD τ).loc main_arg6)

/-- Argument 7. -/
abbrev A7 : Row 256 := m ((c : Thread nD τ).loc main_arg7)

/-- Argument 8. -/
abbrev A8 : Mat 512 256 := m ((c : Thread nD τ).loc main_arg8)

/-- Argument 9. -/
abbrev A9 : Row 256 := m ((c : Thread nD τ).loc main_arg9)

/-- Argument 10. -/
abbrev A10 : Row 256 := m ((c : Thread nD τ).loc main_arg10)

/-- Argument 11. -/
abbrev A11 : Row 256 := m ((c : Thread nD τ).loc main_arg11)

/-- What the first linear layer is, entry by entry. -/
abbrev Y1 : Fin 32768 → Fin 256 → EReal := linv (A1 m c) (A4 m c) (A5 m c)

/-- What the second linear layer is, entry by entry. -/
abbrev Y2 : Fin 8192 → Fin 256 → EReal := linv (A3 m c) (A8 m c) (A9 m c)

/-- The squared lengths of the queries, as region 2 finds them. -/
theorem v5_read (r : Fin 32768) :
    aq2 (V7 m ρ) c (ix3 ⟨r.val / 2048, by omega⟩ 0 ⟨r.val % 2048, by omega⟩) = sq3 (A0 m c) r := by
  have h : W7 m ρ c (Proc.devRef .tc main_v5) = W1 m ρ c (Proc.devRef .tc main_v5) :=
    (W7_of m ρ c main_v5 (by decide +kernel)).trans <| (W6_of m ρ c main_v5 (by decide +kernel)).trans <|
    (W5_of m ρ c main_v5 (by decide +kernel)).trans <| (W4_of m ρ c main_v5 (by decide +kernel)).trans <|
    (W3_of m ρ c main_v5 (by decide +kernel)).trans (W2_of m ρ c main_v5 (by decide +kernel))
  refine (congrFun h _).trans ((v5_after (W0 m ρ c) ⟨r.val / 2048, by omega⟩ ⟨r.val % 2048, by omega⟩).trans ?_)
  have e : (⟨2048 * (r.val / 2048) + r.val % 2048, by omega⟩ : Fin 32768) = r := Fin.ext (by dsimp only; omega)
  unfold arr sq3
  dsimp only
  rw [e]

/-- The padded points, as region 2 finds them. -/
theorem v10_read (r : Fin 8192) (k : Fin 8) :
    ap (V7 m ρ) c (ix2 r k) = if hk : k.val < 3 then A2 m c (ix2 r ⟨k.val, hk⟩) else if k.val = 3 then sq3 (A2 m c) r else 0 := by
  have h : W7 m ρ c (Proc.devRef .tc main_v10) = W3 m ρ c (Proc.devRef .tc main_v10) :=
    (W7_of m ρ c main_v10 (by decide +kernel)).trans <| (W6_of m ρ c main_v10 (by decide +kernel)).trans <|
    (W5_of m ρ c main_v10 (by decide +kernel)).trans (W4_of m ρ c main_v10 (by decide +kernel))
  have h2 : W2 m ρ c (Proc.devRef .tc main_arg2) = m ((c : Thread nD τ).loc main_arg2) := W2_args m ρ c main_arg2 (by decide +kernel)
  have h4 : arr S8192x1 (W2 m ρ c (Proc.devRef .tc main_v4)) (ix2 r 0) = sq3 (A2 m c) r :=
    (congrFun (W2_of m ρ c main_v4 (by decide +kernel)) _).trans (v4_after (W0 m ρ c) r)
  refine (congrFun h _).trans ((v10_after (W2 m ρ c) r k).trans ?_)
  rw [h4, h2]

/-- The padded queries, as region 2 finds them. -/
theorem v8_read (r : Fin 32768) (k : Fin 8) :
    aq (V7 m ρ) c (ix2 r k) = if hk : k.val < 3 then Ideal.ofBits .f32 0xC0000000#32 * A0 m c (ix2 r ⟨k.val, hk⟩) else 0 := by
  have h : W7 m ρ c (Proc.devRef .tc main_v8) = W2 m ρ c (Proc.devRef .tc main_v8) :=
    (W7_of m ρ c main_v8 (by decide +kernel)).trans <| (W6_of m ρ c main_v8 (by decide +kernel)).trans <|
    (W5_of m ρ c main_v8 (by decide +kernel)).trans <| (W4_of m ρ c main_v8 (by decide +kernel)).trans
    (W3_of m ρ c main_v8 (by decide +kernel))
  refine (congrFun h _).trans ((v8_after (W1 m ρ c) r k (c_after (W0 m ρ c))).trans ?_)
  split_ifs with hk
  · exact v7_after (W0 m ρ c) r ⟨k.val, hk⟩
  · rfl

/-- The distances of region 2 are the kernel's distances of the arguments. -/
theorem kdist_eq (r : Fin 32768) (j : Fin 1024) : kdist (V7 m ρ) c r j = dK (A0 m c) (A2 m c) r j := by
  unfold kdist
  rw [v5_read, v10_read, Finset.sum_congr rfl fun k _ => congrArg₂ (· * ·) (v10_read m ρ c _ k) (v8_read m ρ c r k),
    Fin.sum_univ_eight, dK, Fin.sum_univ_three]
  simp [pt]

/-- The first bias, as region 0 finds it. -/
theorem v11_read : (V3 m ρ c main_v11 : Mat 1 256) = fun i => A5 m c (ix1 (i 1)) := by
  have h2 : W2 m ρ c (Proc.devRef .tc main_arg5) = m ((c : Thread nD τ).loc main_arg5) := W2_args m ρ c main_arg5 (by decide +kernel)
  funext i
  have hi : i = ix2 0 (i 1) := funext fun a => match a with
    | ⟨0, _⟩ => Fin.ext (by have h : (i 0).val < 1 := (i 0).isLt; show (i 0).val = 0; omega)
    | ⟨1, _⟩ => rfl
  rw [hi]
  refine (v11_after (W2 m ρ c) (i 1)).trans ?_
  rw [h2]
  rfl

/-- The layer that region 0 sums is the first linear layer. -/
theorem L0_eq : L0 (V3 m ρ) c = Y1 m c := by
  funext r j
  have h1 : V3 m ρ c main_arg1 = m ((c : Thread nD τ).loc main_arg1) := W3_args m ρ c main_arg1 (by decide +kernel)
  have h4 : V3 m ρ c main_arg4 = m ((c : Thread nD τ).loc main_arg4) := W3_args m ρ c main_arg4 (by decide +kernel)
  unfold L0 lin
  rw [h1, h4, v11_read]
  rfl

/-- The second bias, as region 1 finds it. -/
theorem v13_read : (V5 m ρ c main_v13 : Mat 1 256) = fun i => A9 m c (ix1 (i 1)) := by
  have h2 : W4 m ρ c (Proc.devRef .tc main_arg9) = m ((c : Thread nD τ).loc main_arg9) := W4_args m ρ c main_arg9 (by decide +kernel)
  funext i
  have hi : i = ix2 0 (i 1) := funext fun a => match a with
    | ⟨0, _⟩ => Fin.ext (by have h : (i 0).val < 1 := (i 0).isLt; show (i 0).val = 0; omega)
    | ⟨1, _⟩ => rfl
  rw [hi]
  refine (v13_after (W4 m ρ c) (i 1)).trans ?_
  rw [h2]
  rfl

/-- The layer that region 1 computes is the second linear layer. -/
theorem L1_eq : L1 (V5 m ρ) c = Y2 m c := by
  funext r j
  have h1 : V5 m ρ c main_arg3 = m ((c : Thread nD τ).loc main_arg3) := W5_args m ρ c main_arg3 (by decide +kernel)
  have h4 : V5 m ρ c main_arg8 = m ((c : Thread nD τ).loc main_arg8) := W5_args m ρ c main_arg8 (by decide +kernel)
  unfold L1 lin
  rw [h1, h4, v13_read]
  rfl

/-- The column sums of the first layer, as the host finds them. -/
theorem s0_read (j : Fin 256) : arr S1x256 (W6 m ρ c (Proc.devRef .tc main_v12_0)) (ix2 0 j) = ∑ r, Y1 m c r j := by
  have h : W6 m ρ c (Proc.devRef .tc main_v12_0) = sums0 (V3 m ρ) c :=
    (W6_of m ρ c main_v12_0 (by decide +kernel)).trans <| (W5_of m ρ c main_v12_0 (by decide +kernel)).trans <|
    (W4_arr m ρ c 3).trans (sums0_final (V3 m ρ) c)
  rw [h, ← L0_eq m ρ c]
  rfl

/-- The column sums of the first layer's squares, as the host finds them. -/
theorem ss0_read (j : Fin 256) : arr S1x256 (W6 m ρ c (Proc.devRef .tc main_v12_1)) (ix2 0 j) = ∑ r, Y1 m c r j * Y1 m c r j := by
  have h : W6 m ρ c (Proc.devRef .tc main_v12_1) = squares0 (V3 m ρ) c :=
    (W6_of m ρ c main_v12_1 (by decide +kernel)).trans <| (W5_of m ρ c main_v12_1 (by decide +kernel)).trans <|
    (W4_arr m ρ c 4).trans (squares0_final (V3 m ρ) c)
  rw [h, ← L0_eq m ρ c]
  rfl

/-- The column sums of the second layer, as the host finds them. -/
theorem s1_read (j : Fin 256) : arr S1x256 (W6 m ρ c (Proc.devRef .tc main_v14_1)) (ix2 0 j) = ∑ r, Y2 m c r j := by
  have h : W6 m ρ c (Proc.devRef .tc main_v14_1) = sums1 (V5 m ρ) c := (W6_arr m ρ c 4).trans (sums1_final (V5 m ρ) c)
  rw [h, ← L1_eq m ρ c]
  rfl

/-- The column sums of the second layer's squares, as the host finds them. -/
theorem ss1_read (j : Fin 256) : arr S1x256 (W6 m ρ c (Proc.devRef .tc main_v14_2)) (ix2 0 j) = ∑ r, Y2 m c r j * Y2 m c r j := by
  have h : W6 m ρ c (Proc.devRef .tc main_v14_2) = squares1 (V5 m ρ) c := (W6_arr m ρ c 5).trans (squares1_final (V5 m ρ) c)
  rw [h, ← L1_eq m ρ c]
  rfl

/-- The second layer, as region 2 finds it. -/
theorem y2_read (r : Fin 8192) (j : Fin 256) : ay2 (V7 m ρ) c (ix2 r j) = Y2 m c r j := by
  have h : W7 m ρ c (Proc.devRef .tc main_v14_0) = fun i => L1 (V5 m ρ) c (i 0) (i 1) :=
    (W7_of m ρ c main_v14_0 (by decide +kernel)).trans <| (W6_arr m ρ c 3).trans (layer1_final (V5 m ρ) c)
  rw [← L1_eq m ρ c]
  exact congrFun h _

/-- The first features are the first layer, normalised and rectified. -/
theorem kfeat1_eq (r : Fin 32768) (j : Fin 256) :
    kfeat1 (V7 m ρ) c r j = actK (fun r => Y1 m c r j) (Ideal.ofBits .f32 0x47000000#32) (A6 m c (ix1 j)) (A7 m c (ix1 j)) r := by
  have h1 : V7 m ρ c main_arg1 = m ((c : Thread nD τ).loc main_arg1) := W7_args m ρ c main_arg1 (by decide +kernel)
  have h4 : V7 m ρ c main_arg4 = m ((c : Thread nD τ).loc main_arg4) := W7_args m ρ c main_arg4 (by decide +kernel)
  have h5 : W6 m ρ c (Proc.devRef .tc main_arg5) = m ((c : Thread nD τ).loc main_arg5) := W6_args m ρ c main_arg5 (by decide +kernel)
  have h6 : W6 m ρ c (Proc.devRef .tc main_arg6) = m ((c : Thread nD τ).loc main_arg6) := W6_args m ρ c main_arg6 (by decide +kernel)
  have h7 : W6 m ρ c (Proc.devRef .tc main_arg7) = m ((c : Thread nD τ).loc main_arg7) := W6_args m ρ c main_arg7 (by decide +kernel)
  have hb : arr S1x256 (V7 m ρ c main_v47) (ix2 0 j) = A5 m c (ix1 j) := (v47_after (W6 m ρ c) j).trans (by rw [h5])
  have hsc := v29_after (W6 m ρ c) j
  have hsh := v30_after (W6 m ρ c) j
  rw [s0_read, ss0_read, h6] at hsc
  rw [s0_read, ss0_read, h6, h7] at hsh
  have hl : lin (n := 32768) (k := 256) (V7 m ρ c main_arg1) (V7 m ρ c main_arg4) (V7 m ρ c main_v47) r j = Y1 m c r j := by
    unfold lin
    rw [h1, h4]
    exact congrArg _ hb
  unfold kfeat1 actK
  rw [hl]
  exact congrArg₂ (fun a b => max (Y1 m c r j * a + b) 0) hsc hsh

/-- The second features are the second layer, normalised and rectified. -/
theorem kfeat2_eq (r : Fin 8192) (j : Fin 256) :
    kfeat2 (V7 m ρ) c r j = actK (fun r => Y2 m c r j) (Ideal.ofBits .f32 0x46000000#32) (A10 m c (ix1 j)) (A11 m c (ix1 j)) r := by
  have h6 : W6 m ρ c (Proc.devRef .tc main_arg10) = m ((c : Thread nD τ).loc main_arg10) := W6_args m ρ c main_arg10 (by decide +kernel)
  have h7 : W6 m ρ c (Proc.devRef .tc main_arg11) = m ((c : Thread nD τ).loc main_arg11) := W6_args m ρ c main_arg11 (by decide +kernel)
  have hsc := v45_after (W6 m ρ c) j
  have hsh := v46_after (W6 m ρ c) j
  rw [s1_read, ss1_read, h6] at hsc
  rw [s1_read, ss1_read, h6, h7] at hsh
  unfold kfeat2 actK
  rw [y2_read]
  exact congrArg₂ (fun a b => max (Y2 m c r j * a + b) 0) hsc hsh

/-- The kernel's result at an entry. -/
theorem kernel_value (r : Fin 32768) (j : Fin 256) : ∃ a1 a2 a3 : EReal, Top3 a1 a2 a3 (Cert.Val.count (dK (A0 m c) (A2 m c) r)) ∧
    arr S32768x256 (W8 m ρ c (Proc.devRef .tc main_v48)) (ix2 r j)
      = actK (fun r => Y1 m c r j) (Ideal.ofBits .f32 0x47000000#32) (A6 m c (ix1 j)) (A7 m c (ix1 j)) r
        + interpK (dK (A0 m c) (A2 m c) r) (fun i => actK (fun r => Y2 m c r j) (Ideal.ofBits .f32 0x46000000#32) (A10 m c (ix1 j))
            (A11 m c (ix1 j)) (pt r i)) a1 a2 a3 := by
  obtain ⟨a1, a2, a3, ht, h⟩ := fused_apply (V7 m ρ) c r j
  have hd : kdist (V7 m ρ) c r = dK (A0 m c) (A2 m c) r := funext fun i => kdist_eq m ρ c r i
  rw [hd] at ht h
  refine ⟨a1, a2, a3, ht, (congrFun ((W8_arr m ρ c 11).trans (fused_final (V7 m ρ) c)) (ix2 r j)).trans (h.trans ?_)⟩
  rw [kfeat1_eq]
  unfold interpK
  simp only [kfeat2_eq]
  rfl

end Cert.KernelIdeal.Val
-- ==== Proof.Value.Sort.lean ====
/- The greatest entries along the last axis, and rows taken by index within a batch. -/
module

public import proofs.«01_k».proof.Proof.Value.Goal
public import Idealize.ShloMosaic.Lib.SortFacts

@[expose] public section

noncomputable section

namespace Cert.Val

open Idealize.ShloMosaic

section

variable {A B n : ℕ}

/-- The order in which the entries `v b q` come, the greatest first and equal ones by position. -/
def desc (v : FVec Ideal ⟨3, ![A, B, n]⟩ .f32) (b : Fin A) (q : Fin B) : Fin n → Fin n :=
  sortedFrom fun k k' => FloatOps.cmpfTotal (F := Ideal) .gt (v (ix3 b q k)) (v (ix3 b q k')) == 1#1

theorem along_last (b : Fin A) (q : Fin B) (k k' : Fin n) :
    Shape.Idx.along (s := ⟨3, ![A, B, n]⟩) (ix3 b q k) 2 k' = ix3 b q k' := by
  funext a
  match a with
  | ⟨0, _⟩ => rfl
  | ⟨1, _⟩ => rfl
  | ⟨2, _⟩ => rfl

/-- The position that the sort of a fibre reads. -/
theorem sort_at (v : FVec Ideal ⟨3, ![A, B, n]⟩ .f32) (b : Fin A) (q : Fin B) (k : Fin n) :
    Shape.Idx.along (s := ⟨3, ![A, B, n]⟩) (ix3 b q k) 2
      (sortedFrom (n := n) (fun i i' => FloatOps.cmpfTotal (F := Ideal) .gt (v (Shape.Idx.along (s := ⟨3, ![A, B, n]⟩) (ix3 b q k) 2 i))
        (v (Shape.Idx.along (s := ⟨3, ![A, B, n]⟩) (ix3 b q k) 2 i')) == 1#1) k)
      = ix3 b q (desc v b q k) := by
  refine (along_last b q k _).trans (congrArg (fun f => ix3 b q (sortedFrom (n := n) f k)) ?_)
  funext i i'
  exact congrArg₂ (fun x y => FloatOps.cmpfTotal (F := Ideal) .gt (v x) (v y) == 1#1) (along_last b q k i) (along_last b q k i')

/-- The `k`-th greatest value. -/
theorem topK_values {K : ℕ} (hK : K ≤ n) (v : FVec Ideal ⟨3, ![A, B, n]⟩ .f32)
    (h : (⟨3, ![A, B, n]⟩ : Shape).Slices (fun _ => 0) ⟨3, ![A, B, K]⟩) (b : Fin A) (q : Fin B) (k : Fin K) :
    (Host.topK ⟨3, ![A, B, K]⟩ 2 (FloatOps.cmpfTotal (F := Ideal) .gt) v h).1 (ix3 b q k)
      = v (ix3 b q (desc v b q ⟨k.val, k.isLt.trans_le hK⟩)) := by
  unfold Host.topK Host.sort2
  dsimp only
  rw [dif_pos (show 2 < (⟨3, ![A, B, n]⟩ : Shape).rank by show 2 < 3; decide)]
  refine (extractStridedSlice_apply _ _ h (ix3 b q k) (ix3 b q ⟨k.val, k.isLt.trans_le hK⟩) ?_).trans ?_
  · intro a
    match a with
    | ⟨0, _⟩ => show b.val = 0 + b.val; omega
    | ⟨1, _⟩ => show q.val = 0 + q.val; omega
    | ⟨2, _⟩ => show k.val = 0 + k.val; omega
  · exact congrArg v (sort_at v b q _)

/-- The position of the `k`-th greatest value. -/
theorem topK_indices {K : ℕ} (hK : K ≤ n) (v : FVec Ideal ⟨3, ![A, B, n]⟩ .f32)
    (h : (⟨3, ![A, B, n]⟩ : Shape).Slices (fun _ => 0) ⟨3, ![A, B, K]⟩) (b : Fin A) (q : Fin B) (k : Fin K) :
    (Host.topK ⟨3, ![A, B, K]⟩ 2 (FloatOps.cmpfTotal (F := Ideal) .gt) v h).2 (ix3 b q k)
      = BitVec.ofNat 32 (desc v b q ⟨k.val, k.isLt.trans_le hK⟩).val := by
  unfold Host.topK Host.sort2
  dsimp only
  rw [dif_pos (show 2 < (⟨3, ![A, B, n]⟩ : Shape).rank by show 2 < 3; decide)]
  refine (extractStridedSlice_apply _ _ h (ix3 b q k) (ix3 b q ⟨k.val, k.isLt.trans_le hK⟩) ?_).trans ?_
  · intro a
    match a with
    | ⟨0, _⟩ => show b.val = 0 + b.val; omega
    | ⟨1, _⟩ => show q.val = 0 + q.val; omega
    | ⟨2, _⟩ => show k.val = 0 + k.val; omega
  · exact congrArg (fun i : (⟨3, ![A, B, n]⟩ : Shape).Idx => BitVec.ofNat 32 (i 2).val) (sort_at v b q _)

theorem gt_eq (x y : EReal) : (FloatOps.cmpfTotal (F := Ideal) (φ := .f32) .gt x y == 1#1) = decide (y < x) := by
  show (BitVec.ofBool (decide (y < x)) == 1#1) = decide (y < x)
  cases decide (y < x) <;> rfl

theorem desc_bijective (v : FVec Ideal ⟨3, ![A, B, n]⟩ .f32) (b : Fin A) (q : Fin B) : Function.Bijective (desc v b q) :=
  ⟨sortedFrom_injective _, sortedFrom_surjective _⟩

/-- Later entries are no greater. -/
theorem desc_sorted (v : FVec Ideal ⟨3, ![A, B, n]⟩ .f32) (b : Fin A) (q : Fin B) (i j : Fin n) (hij : i < j) :
    (v (ix3 b q (desc v b q j)) : EReal) ≤ v (ix3 b q (desc v b q i)) := by
  have h : (FloatOps.cmpfTotal (F := Ideal) .gt (v (ix3 b q (desc v b q j))) (v (ix3 b q (desc v b q i))) == 1#1) = false := sortedFrom_noInversion
    (fun k k' => FloatOps.cmpfTotal (F := Ideal) .gt (v (ix3 b q k)) (v (ix3 b q k')) == 1#1)
    (fun k k' => FloatOps.cmpfTotal (F := Ideal) .gt (v (ix3 b q k)) (v (ix3 b q k')) == 1#1)
    (fun a a' h => by
      simp only [gt_eq, decide_eq_true_eq, decide_eq_false_iff_not] at h ⊢
      exact not_lt.mpr h.le)
    (fun a a' h => h)
    (fun a a' a'' h h' => by
      simp only [gt_eq, decide_eq_false_iff_not, not_lt] at h h' ⊢
      exact h.trans h') i j hij
  rw [gt_eq, decide_eq_false_iff_not, not_lt] at h
  exact h

end

/-- Taking rows of an `[8, 1024, 256]` array within each batch, by indices shaped `[8, 4096, 3, 1]`. -/
abbrev rowsDims (wf : GatherDims.WF ⟨3, ![8, 1024, 256]⟩ ⟨4, ![8, 4096, 3, 1]⟩ ⟨4, ![8, 4096, 3, 256]⟩ [3] [1] [0] [1] [0] 3 ![1, 1, 256]) :
    GatherDims ⟨3, ![8, 1024, 256]⟩ ⟨4, ![8, 4096, 3, 1]⟩ ⟨4, ![8, 4096, 3, 256]⟩ where
  offsetDims := [3]
  collapsedSliceDims := [1]
  operandBatchingDims := [0]
  startIndicesBatchingDims := [0]
  startIndexMap := [1]
  indexVectorDim := 3
  sliceSizes := ![1, 1, 256]
  wf := wf

/-- A row so taken: that of the index, read signed and clamped into range. -/
theorem gather_rows_apply
    (wf : GatherDims.WF ⟨3, ![8, 1024, 256]⟩ ⟨4, ![8, 4096, 3, 1]⟩ ⟨4, ![8, 4096, 3, 256]⟩ [3] [1] [0] [1] [0] 3 ![1, 1, 256])
    (x : (⟨3, ![8, 1024, 256]⟩ : Shape).Idx → EReal) (idx : IVec ⟨4, ![8, 4096, 3, 1]⟩ 32) (b : Fin 8) (q : Fin 4096) (k : Fin 3) (j : Fin 256) :
    Host.gather (rowsDims wf) x idx (ix4 b q k j) = x (ix3 b ⟨min (idx (ix4 b q k 0)).toInt.toNat 1023, by omega⟩ j) := by
  unfold Host.gather
  congr 1
  funext a
  refine Fin.ext ?_
  show (rowsDims wf).start (ix4 b q k j) idx a + (rowsDims wf).batchCoord (ix4 b q k j) a + (rowsDims wf).offCoord (ix4 b q k j) a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowsDims wf).startIndexMap from List.mem_singleton.mpr rfl)]
    have hsi : (rowsDims wf).siIdx (ix4 b q k j) ⟨List.idxOf (1 : Fin 3) (rowsDims wf).startIndexMap,
        List.idxOf_lt_length_iff.2 (List.mem_singleton.mpr rfl)⟩ = ix4 b q k 0 := by
      funext b'; refine Fin.ext ?_
      match b' with
      | ⟨0, _⟩ => rfl
      | ⟨1, _⟩ => rfl
      | ⟨2, _⟩ => rfl
      | ⟨3, _⟩ => rfl
    rw [hsi]
    rfl
  · unfold GatherDims.start
    rw [dif_neg (by simp), GatherDims.batchCoord_eq_zero _ _ _ (fun h => by simp at h)]
    simp only [Nat.zero_add]
    rfl

end Cert.Val
-- ==== Proof.Value.Ref.lean ====
/- The reference's result as a function of its arguments. -/
module

public import proofs.«01_k».proof.Proof.Gen.ReferenceIdeal.Read
public import proofs.«01_k».proof.Proof.Value.Goal
public import proofs.«01_k».proof.Proof.Value.Sort
public import Idealize.ShloMosaic.Lib.Pointwise

@[expose] public section

noncomputable section

namespace Cert.ReferenceIdeal.Val

open Idealize.ShloMosaic Idealize.ShloMosaic.TcCoe Cert.ReferenceIdeal Cert.ReferenceIdeal.Gen Cert.ReferenceIdeal.Read Cert.Val

section

variable (x0 : Mat 32768 3) (x1 : Mat 32768 256) (x2 : Mat 8192 3) (x3 : Mat 8192 512) (x4 : Mat 256 256) (x5 x6 x7 : Row 256)
  (x8 : Mat 512 256) (x9 x10 x11 : Row 256)

/-- The first linear layer. -/
theorem v3_at (r : Fin 32768) (j : Fin 256) : val_main_v3 (F := Ideal) x1 x4 x5 (ix2 r j) = linv x1 x4 x5 r j := by
  unfold val_main_v3 val_main_v2 val_main_v1 val_main_v0 linv
  pointwise

/-- The second linear layer. -/
theorem v27_at (r : Fin 8192) (j : Fin 256) : val_main_v27 (F := Ideal) x3 x8 x9 (ix2 r j) = linv x3 x8 x9 r j := by
  unfold val_main_v27 val_main_v26 val_main_v25 val_main_v24 linv
  pointwise

/-- The mean of a column. -/
def mean {n : ℕ} (y : Fin n → EReal) (N : EReal) : EReal := Ideal.div (0 + ∑ i, y i) N

/-- The mean of a column of the first layer. -/
theorem v6_at (j : Fin 256) : val_main_v6 (F := Ideal) x1 x4 x5 (ix1 j)
    = mean (fun r => linv x1 x4 x5 r j) (Ideal.ofBits .f32 0x47000000#32) := by
  have h := v3_at x1 x4 x5
  unfold val_main_v6 val_main_v5 val_main_v4 val_main_cst val_main_cst_0 mean
  generalize val_main_v3 (F := Ideal) x1 x4 x5 = y at h ⊢
  pointwise
  simp only [h]

/-- The sum of the squared deviations of a column of the first layer. -/
theorem call0_v9_at (j : Fin 256) : val_main_call0_v9 (F := Ideal) x1 x4 x5 (ix1 j)
    = 0 + ∑ r, (linv x1 x4 x5 r j - mean (fun r => linv x1 x4 x5 r j) (Ideal.ofBits .f32 0x47000000#32))
      * (linv x1 x4 x5 r j - mean (fun r => linv x1 x4 x5 r j) (Ideal.ofBits .f32 0x47000000#32)) := by
  have h := v3_at x1 x4 x5
  unfold val_main_call0_v9 val_main_call0_v6 val_main_call0_v5 val_main_call0_v4 val_main_call0_v3 val_main_call0_v2
    val_main_call0_v1 val_main_call0_v0 val_main_call0_cst val_main_call0_cst_0 val_main_call0_cst_2 mean
  generalize val_main_v3 (F := Ideal) x1 x4 x5 = y at h ⊢
  pointwise
  simp only [h]

/-- The number of rows that the first variance divides by. -/
theorem call0_v8_at (i : S_.Idx) : val_main_call0_v8 (F := Ideal) i = Ideal.ofBits .f32 0x47000000#32 := by
  show Ideal.ofBits .f32 0x47000000#32 - (((0#32 : BitVec 32).toInt : ℝ) : EReal) = _
  simp

/-- It is positive. -/
theorem call0_v12_at (i : S_.Idx) : val_main_call0_v12 (F := Ideal) i = 1#1 := by
  rw [val_main_call0_v12_apply, call0_v8_at]
  show BitVec.ofBool (decide (Ideal.ofBits .f32 0x00000000#32 < Ideal.ofBits .f32 0x47000000#32)) = 1#1
  rw [Ideal.ofBits_zero_f32, n1_bits, decide_eq_true]
  · rfl
  · exact_mod_cast (by norm_num : 0 < 32768)

/-- The variance of a column of the first layer. -/
theorem v7_at (j : Fin 256) : val_main_v7 (F := Ideal) x1 x4 x5 (ix1 j)
    = Ideal.div (0 + ∑ r, (linv x1 x4 x5 r j - mean (fun r => linv x1 x4 x5 r j) (Ideal.ofBits .f32 0x47000000#32))
      * (linv x1 x4 x5 r j - mean (fun r => linv x1 x4 x5 r j) (Ideal.ofBits .f32 0x47000000#32))) (Ideal.ofBits .f32 0x47000000#32) := by
  have h9 := call0_v9_at x1 x4 x5 j
  have h12 : broadcastInDim S256 ![] bcast_S_S256 (val_main_call0_v12 (F := Ideal)) (ix1 j) = 1#1 := call0_v12_at _
  have h11 : val_main_call0_v11 (F := Ideal) x1 x4 x5 (ix1 j)
      = Ideal.div (val_main_call0_v9 (F := Ideal) x1 x4 x5 (ix1 j)) (Ideal.ofBits .f32 0x47000000#32) := by
    rw [val_main_call0_v11_apply, val_main_call0_v10_apply, call0_v8_at]
    rfl
  unfold val_main_v7
  refine (congrArg (fun z => Scalar.select z (val_main_call0_v11 (F := Ideal) x1 x4 x5 (ix1 j))
    (val_main_call0_call0_v1 (F := Ideal) (ix1 j))) h12).trans ?_
  rw [h11, h9]
  rfl

/-- The first features, normalised and rectified. -/
theorem v23_at (r : Fin 32768) (j : Fin 256) : val_main_v23 (F := Ideal) x1 x4 x5 x6 x7 (ix2 r j)
    = actR (fun r => linv x1 x4 x5 r j) (Ideal.ofBits .f32 0x47000000#32) (x6 (ix1 j)) (x7 (ix1 j)) r := by
  have h := v3_at x1 x4 x5
  have h6 := v6_at x1 x4 x5
  have h7 := v7_at x1 x4 x5
  unfold val_main_v23 val_main_call1_v0 val_main_call1_cst val_main_v22 val_main_v21 val_main_v20 val_main_v19 val_main_v18 val_main_v17 val_main_v16
    val_main_v15 val_main_v14 val_main_v13 val_main_v12 val_main_v11 val_main_v10 val_main_v9 val_main_v8 val_main_cst_1 actR bnRef
  generalize val_main_v3 (F := Ideal) x1 x4 x5 = y at h ⊢
  generalize val_main_v6 (F := Ideal) x1 x4 x5 = y6 at h6 ⊢
  generalize val_main_v7 (F := Ideal) x1 x4 x5 = y7 at h7 ⊢
  pointwise
  simp only [h, h6, h7, mean, zero_add]

/-- The mean of a column of the second layer. -/
theorem v30_at (j : Fin 256) : val_main_v30 (F := Ideal) x3 x8 x9 (ix1 j)
    = mean (fun r => linv x3 x8 x9 r j) (Ideal.ofBits .f32 0x46000000#32) := by
  have h := v27_at x3 x8 x9
  unfold val_main_v30 val_main_v29 val_main_v28 val_main_cst_2 val_main_cst_3 mean
  generalize val_main_v27 (F := Ideal) x3 x8 x9 = y at h ⊢
  pointwise
  simp only [h]

/-- The sum of the squared deviations of a column of the second layer. -/
theorem call2_v9_at (j : Fin 256) : val_main_call2_v9 (F := Ideal) x3 x8 x9 (ix1 j)
    = 0 + ∑ r, (linv x3 x8 x9 r j - mean (fun r => linv x3 x8 x9 r j) (Ideal.ofBits .f32 0x46000000#32))
      * (linv x3 x8 x9 r j - mean (fun r => linv x3 x8 x9 r j) (Ideal.ofBits .f32 0x46000000#32)) := by
  have h := v27_at x3 x8 x9
  unfold val_main_call2_v9 val_main_call2_v6 val_main_call2_v5 val_main_call2_v4 val_main_call2_v3 val_main_call2_v2
    val_main_call2_v1 val_main_call2_v0 val_main_call2_cst val_main_call2_cst_0 val_main_call2_cst_2 mean
  generalize val_main_v27 (F := Ideal) x3 x8 x9 = y at h ⊢
  pointwise
  simp only [h]

/-- The number of rows that the second variance divides by. -/
theorem call2_v8_at (i : S_.Idx) : val_main_call2_v8 (F := Ideal) i = Ideal.ofBits .f32 0x46000000#32 := by
  show Ideal.ofBits .f32 0x46000000#32 - (((0#32 : BitVec 32).toInt : ℝ) : EReal) = _
  simp

/-- It is positive. -/
theorem call2_v12_at (i : S_.Idx) : val_main_call2_v12 (F := Ideal) i = 1#1 := by
  rw [val_main_call2_v12_apply, call2_v8_at]
  show BitVec.ofBool (decide (Ideal.ofBits .f32 0x00000000#32 < Ideal.ofBits .f32 0x46000000#32)) = 1#1
  rw [Ideal.ofBits_zero_f32, n2_bits, decide_eq_true]
  · rfl
  · exact_mod_cast (by norm_num : 0 < 8192)

/-- The variance of a column of the second layer. -/
theorem v31_at (j : Fin 256) : val_main_v31 (F := Ideal) x3 x8 x9 (ix1 j)
    = Ideal.div (0 + ∑ r, (linv x3 x8 x9 r j - mean (fun r => linv x3 x8 x9 r j) (Ideal.ofBits .f32 0x46000000#32))
      * (linv x3 x8 x9 r j - mean (fun r => linv x3 x8 x9 r j) (Ideal.ofBits .f32 0x46000000#32))) (Ideal.ofBits .f32 0x46000000#32) := by
  have h9 := call2_v9_at x3 x8 x9 j
  have h12 : broadcastInDim S256 ![] bcast_S_S256 (val_main_call2_v12 (F := Ideal)) (ix1 j) = 1#1 := call2_v12_at _
  have h11 : val_main_call2_v11 (F := Ideal) x3 x8 x9 (ix1 j)
      = Ideal.div (val_main_call2_v9 (F := Ideal) x3 x8 x9 (ix1 j)) (Ideal.ofBits .f32 0x46000000#32) := by
    rw [val_main_call2_v11_apply, val_main_call2_v10_apply, call2_v8_at]
    rfl
  unfold val_main_v31
  refine (congrArg (fun z => Scalar.select z (val_main_call2_v11 (F := Ideal) x3 x8 x9 (ix1 j))
    (val_main_call2_call0_v1 (F := Ideal) (ix1 j))) h12).trans ?_
  rw [h11, h9]
  rfl

/-- The second features, normalised and rectified. -/
theorem v47_at (r : Fin 8192) (j : Fin 256) : val_main_v47 (F := Ideal) x3 x8 x9 x10 x11 (ix2 r j)
    = actR (fun r => linv x3 x8 x9 r j) (Ideal.ofBits .f32 0x46000000#32) (x10 (ix1 j)) (x11 (ix1 j)) r := by
  have h := v27_at x3 x8 x9
  have h6 := v30_at x3 x8 x9
  have h7 := v31_at x3 x8 x9
  unfold val_main_v47 val_main_call3_v0 val_main_call3_cst val_main_v46 val_main_v45 val_main_v44 val_main_v43 val_main_v42 val_main_v41 val_main_v40
    val_main_v39 val_main_v38 val_main_v37 val_main_v36 val_main_v35 val_main_v34 val_main_v33 val_main_v32 val_main_cst_5 actR bnRef
  generalize val_main_v27 (F := Ideal) x3 x8 x9 = y at h ⊢
  generalize val_main_v30 (F := Ideal) x3 x8 x9 = y6 at h6 ⊢
  generalize val_main_v31 (F := Ideal) x3 x8 x9 = y7 at h7 ⊢
  pointwise
  simp only [h, h6, h7, mean, zero_add]

/-- The distances. -/
theorem v65_at (b : Fin 8) (q : Fin 4096) (k : Fin 1024) (r : Fin 32768) (hr : r.val = 4096 * b.val + q.val) :
    val_main_v65 (F := Ideal) x0 x2 (ix3 b q k) = dR x0 x2 r k := by
  have e1 : ∀ h : b.val * 4096 + q.val < 32768, (⟨b.val * 4096 + q.val, h⟩ : Fin 32768) = r := fun h => Fin.ext (by dsimp only; omega)
  have e2 : ∀ h : b.val * 1024 + k.val < 8192, (⟨b.val * 1024 + k.val, h⟩ : Fin 8192) = pt r k := fun h => Fin.ext (by unfold pt; dsimp only; omega)
  unfold val_main_v65 val_main_v64 val_main_v63 val_main_v62 val_main_v61 val_main_v60 val_main_v59 val_main_v58
    val_main_v57 val_main_v56 val_main_v55 val_main_v54 val_main_v53 val_main_v52 val_main_v51 val_main_v49 val_main_v48
    val_main_cst_6 val_main_cst_7 val_main_cst_8 val_main_cst_9 dR sq3
  pointwise
  simp only [e1, e2]

/-- The order in which the reference takes the points of query `r`. -/
def near (r : Fin 32768) : Fin 1024 → Fin 1024 :=
  desc (A := 8) (B := 4096) (n := 1024) (val_main_v66 (F := Ideal) x0 x2) ⟨r.val / 4096, by omega⟩ ⟨r.val % 4096, by omega⟩

/-- The negated distances. -/
theorem v66_at (r : Fin 32768) (k : Fin 1024) :
    val_main_v66 (F := Ideal) x0 x2 (ix3 ⟨r.val / 4096, by omega⟩ ⟨r.val % 4096, by omega⟩ k) = (-(dR x0 x2 r k) : EReal) := by
  rw [val_main_v66_apply, v65_at x0 x2 _ _ k r (by dsimp only; omega)]
  rfl

/-- That order is a permutation. -/
theorem near_bijective (r : Fin 32768) : Function.Bijective (near x0 x2 r) := desc_bijective _ _ _

/-- In that order the distances grow. -/
theorem near_sorted (r : Fin 32768) (i j : Fin 1024) (hij : i < j) : dR x0 x2 r (near x0 x2 r i) ≤ dR x0 x2 r (near x0 x2 r j) := by
  have h := desc_sorted (A := 8) (B := 4096) (n := 1024) (val_main_v66 (F := Ideal) x0 x2) ⟨r.val / 4096, by omega⟩ ⟨r.val % 4096, by omega⟩ i j hij
  rw [v66_at, v66_at, EReal.neg_le_neg_iff] at h
  exact h

/-- The values that the reference takes. -/
theorem v67_at (r : Fin 32768) (k : Fin 3) :
    val_main_v67 (F := Ideal) x0 x2 (ix3 ⟨r.val / 4096, by omega⟩ ⟨r.val % 4096, by omega⟩ k) = dR x0 x2 r (near x0 x2 r ⟨k.val, by omega⟩) := by
  have h : val_main_values (F := Ideal) x0 x2 (ix3 ⟨r.val / 4096, by omega⟩ ⟨r.val % 4096, by omega⟩ k)
      = (-(dR x0 x2 r (near x0 x2 r ⟨k.val, by omega⟩)) : EReal) :=
    (topK_values (A := 8) (B := 4096) (n := 1024) (K := 3) (by decide) (val_main_v66 (F := Ideal) x0 x2) sliceFits_S8x4096x1024_S8x4096x3
      ⟨r.val / 4096, by omega⟩ ⟨r.val % 4096, by omega⟩ k).trans (v66_at x0 x2 r _)
  rw [val_main_v67_apply, h]
  exact neg_neg _

/-- A small number read from its word. -/
theorem toInt_small (n : ℕ) (hn : n < 1024) : (BitVec.ofNat 32 n).toInt = n := by
  rw [BitVec.toInt_eq_toNat_of_lt, BitVec.toNat_ofNat]
  · congr 1; omega
  · rw [BitVec.toNat_ofNat]; omega

/-- The indices that the reference takes. -/
theorem v80_at (r : Fin 32768) (k : Fin 3) :
    val_main_v80 (F := Ideal) x0 x2 (ix3 ⟨r.val / 4096, by omega⟩ ⟨r.val % 4096, by omega⟩ k)
      = BitVec.ofNat 32 (near x0 x2 r ⟨k.val, by omega⟩).val := by
  have h : val_main_indices (F := Ideal) x0 x2 (ix3 ⟨r.val / 4096, by omega⟩ ⟨r.val % 4096, by omega⟩ k)
      = BitVec.ofNat 32 (near x0 x2 r ⟨k.val, by omega⟩).val :=
    topK_indices (A := 8) (B := 4096) (n := 1024) (K := 3) (by decide) (val_main_v66 (F := Ideal) x0 x2) sliceFits_S8x4096x1024_S8x4096x3
      ⟨r.val / 4096, by omega⟩ ⟨r.val % 4096, by omega⟩ k
  rw [val_main_v80_apply, val_main_v77_apply, val_main_v79_apply, h, val_main_v76_apply, val_main_c_13_apply]
  have hn := (near x0 x2 r ⟨k.val, by omega⟩).isLt
  generalize (near x0 x2 r ⟨k.val, by omega⟩).val = n at hn ⊢
  have hs : IntOp.cmpi .slt (BitVec.ofNat 32 n) 0#32 = 0#1 := by
    show BitVec.ofBool (decide ((BitVec.ofNat 32 n).toInt < (0#32 : BitVec 32).toInt)) = 0#1
    rw [toInt_small n hn, decide_eq_false]
    · rfl
    · simp
  rw [hs]
  rfl

/-- The weights before they are scaled. -/
theorem v71_at (r : Fin 32768) (k : Fin 3) :
    val_main_v71 (F := Ideal) x0 x2 (ix3 ⟨r.val / 4096, by omega⟩ ⟨r.val % 4096, by omega⟩ k)
      = wt (dR x0 x2 r (near x0 x2 r ⟨k.val, by omega⟩)) := by
  have h := v67_at x0 x2 r k
  unfold val_main_v71 val_main_v70 val_main_v69 val_main_v68 val_main_cst_10 val_main_cst_11 wt
  generalize val_main_v67 (F := Ideal) x0 x2 = y at h ⊢
  pointwise
  rw [h]

/-- The weights. -/
theorem v75_at (r : Fin 32768) (k : Fin 3) :
    val_main_v75 (F := Ideal) x0 x2 (ix3 ⟨r.val / 4096, by omega⟩ ⟨r.val % 4096, by omega⟩ k)
      = Ideal.div (wt (dR x0 x2 r (near x0 x2 r ⟨k.val, by omega⟩))) (∑ l : Fin 3, wt (dR x0 x2 r (near x0 x2 r ⟨l.val, by omega⟩))) := by
  have h := v71_at x0 x2 r
  unfold val_main_v75 val_main_v74 val_main_v73 val_main_v72 val_main_cst_12
  generalize val_main_v71 (F := Ideal) x0 x2 = y at h ⊢
  pointwise
  simp only [h]

/-- The rows that the reference takes. -/
theorem v82_at (r : Fin 32768) (k : Fin 3) (j : Fin 256) :
    val_main_v82 (F := Ideal) x0 x2 x3 x8 x9 x10 x11 (ix4 ⟨r.val / 4096, by omega⟩ ⟨r.val % 4096, by omega⟩ k j)
      = actR (fun r => linv x3 x8 x9 r j) (Ideal.ofBits .f32 0x46000000#32) (x10 (ix1 j)) (x11 (ix1 j))
          (pt r (near x0 x2 r ⟨k.val, by omega⟩)) := by
  have h80 := v80_at x0 x2 r k
  have h81 : val_main_v81 (F := Ideal) x0 x2 (ix4 ⟨r.val / 4096, by omega⟩ ⟨r.val % 4096, by omega⟩ k 0)
      = BitVec.ofNat 32 (near x0 x2 r ⟨k.val, by omega⟩).val := by
    unfold val_main_v81
    generalize val_main_v80 (F := Ideal) x0 x2 = y at h80 ⊢
    pointwise
    exact h80
  have h50 : ∀ s : Fin 1024, val_main_v50 (F := Ideal) x3 x8 x9 x10 x11 (ix3 ⟨r.val / 4096, by omega⟩ s j)
      = val_main_v47 (F := Ideal) x3 x8 x9 x10 x11 (ix2 (pt r s) j) := by
    intro s
    have e : ∀ h : r.val / 4096 * 1024 + s.val < 8192, (⟨r.val / 4096 * 1024 + s.val, h⟩ : Fin 8192) = pt r s :=
      fun h => Fin.ext (by unfold pt; dsimp only; omega)
    unfold val_main_v50
    generalize val_main_v47 (F := Ideal) x3 x8 x9 x10 x11 = y
    pointwise
    rw [e]
  refine (gather_rows_apply gather_S8x1024x256_S8x4096x3x1_S8x4096x3x256_3_1_0_0_1_3_11256.wf _ _ _ _ k j).trans ?_
  rw [h50, v47_at]
  refine congrArg (fun s : Fin 1024 => actR (fun r => linv x3 x8 x9 r j) (Ideal.ofBits .f32 0x46000000#32) (x10 (ix1 j)) (x11 (ix1 j)) (pt r s))
    (Fin.ext ?_)
  show min (val_main_v81 (F := Ideal) x0 x2 (ix4 ⟨r.val / 4096, _⟩ ⟨r.val % 4096, _⟩ k 0)).toInt.toNat 1023 = _
  rw [h81]
  have hn := (near x0 x2 r ⟨k.val, by omega⟩).isLt
  generalize (near x0 x2 r ⟨k.val, by omega⟩).val = n at hn ⊢
  rw [toInt_small n hn]
  omega

/-- The reference's result at an entry. -/
theorem ref_value (r : Fin 32768) (j : Fin 256) : val_main_v88 (F := Ideal) x0 x1 x2 x3 x4 x5 x6 x7 x8 x9 x10 x11 (ix2 r j)
    = (actR (fun r => linv x1 x4 x5 r j) (Ideal.ofBits .f32 0x47000000#32) (x6 (ix1 j)) (x7 (ix1 j)) r
      + interpR (dR x0 x2 r) (fun i => actR (fun r => linv x3 x8 x9 r j) (Ideal.ofBits .f32 0x46000000#32) (x10 (ix1 j)) (x11 (ix1 j))
          (pt r i)) (near x0 x2 r) : EReal) := by
  have h23 := v23_at x1 x4 x5 x6 x7 r j
  have h82 := fun k => v82_at x0 x2 x3 x8 x9 x10 x11 r k j
  have h75 := v75_at x0 x2 r
  unfold val_main_v88 val_main_v87 val_main_v86 val_main_v85 val_main_v84 val_main_v83 val_main_cst_15 interpR
  generalize val_main_v23 (F := Ideal) x1 x4 x5 x6 x7 = y23 at h23 ⊢
  generalize val_main_v82 (F := Ideal) x0 x2 x3 x8 x9 x10 x11 = y82 at h82 ⊢
  generalize val_main_v75 (F := Ideal) x0 x2 = y75 at h75 ⊢
  pointwise
  simp only [h23, h82, h75]

end

end Cert.ReferenceIdeal.Val
-- ==== Proof.Value.Pre.lean ====
/- What the precondition says of the arguments: the numbers are real, and no tie parts the third point from the fourth. -/
module

public import proofs.«01_k».proof.Proof.Value.Ref
public import proofs.«01_k».proof.Proof.Gen.Pre_separated_reals
public import Idealize.ShloMosaic.Lib.ReduceAll
public import Idealize.ShloMosaic.Lib.Pointwise

@[expose] public section

noncomputable section

namespace Cert.Pre_separated_reals.Val

open Idealize.ShloMosaic Cert.Pre_separated_reals Cert.Pre_separated_reals.Gen Cert.Val

theorem and_one (x y : BitVec 1) (h : IntOp.andi x y = 1#1) : x = 1#1 ∧ y = 1#1 := by
  revert h; revert x y; decide

/-- A number whose absolute value lies below infinity is real. -/
theorem real_of_abs_lt (x : EReal) (h : Ideal.cmp .olt (max x (-x)) ⊤ = 1#1) : ∃ y : ℝ, x = y := by
  have h' : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  induction x with
  | bot => simp at h'
  | top => simp at h'
  | coe y => exact ⟨y, rfl⟩

theorem top_bits : Ideal.ofBits .f32 0x7F800000#32 = ⊤ := by simp [Ideal.ofBits, Ideal.ieee]

instance : Subsingleton S_.Idx := ⟨fun a b => funext fun i => i.elim0⟩

/-- A test that every entry lies below infinity says that every entry is real. -/
theorem real_of_all {s : Shape} {axes : List (Fin s.rank)} (x : FVec Ideal s .f32) (hb : S_.BroadcastsInDim s ![]) (h : s.ReducesTo axes S_) (j : S_.Idx)
    (e : Host.reduce IntOp.andi (cmpf .olt (Host.absf x) (broadcastInDim s ![] hb (constant (F := Ideal) S_ .f32 0x7F800000#32)))
      (constantI S_ 1 1#1) h h_S_ j = 1#1) : IsReal (fun i => (x i : EReal)) := fun i => by
  have e1 := Host.reduce_andi_all _ _ h h_S_ j e i
  refine real_of_abs_lt (x i) (Eq.trans ?_ e1)
  show Ideal.cmp .olt (max (x i) (-(x i))) ⊤ = Ideal.cmp .olt (max (x i) (-(x i))) (Ideal.ofBits .f32 0x7F800000#32)
  rw [top_bits]

section

variable (x0 : Mat 32768 3) (x1 : Mat 32768 256) (x2 : Mat 8192 3) (x3 : Mat 8192 512) (x4 : Mat 256 256) (x5 x6 x7 : Row 256)
  (x8 : Mat 512 256) (x9 x10 x11 : Row 256) (x12 x13 : IVec S9 32)

theorem part1_read (vals : FVec Ideal S8x4096x4 .f32) (j : S_.Idx)
    (h : fn_part1 (F := Ideal) x0 x1 x2 x3 x4 x5 x6 x8 x9 x10 vals j = 1#1) :
    (∀ b q, (vals (ix3 b q 3) : EReal) < vals (ix3 b q 2)) ∧ IsReal x0 ∧ IsReal x1 ∧ IsReal x2 ∧ IsReal x3 ∧ IsReal x4 ∧ IsReal x5
      ∧ IsReal x6 ∧ IsReal x8 ∧ IsReal x9 ∧ IsReal x10 := by
  unfold fn_part1 fn_part2 fn_part3 fn_part4 at h
  replace h := and_one _ _ h
  obtain ⟨h, h10⟩ := h
  replace h := and_one _ _ h
  obtain ⟨h, h9⟩ := h
  replace h := and_one _ _ h
  obtain ⟨h, h8⟩ := h
  replace h := and_one _ _ h
  obtain ⟨h, h6⟩ := h
  replace h := and_one _ _ h
  obtain ⟨h, h5⟩ := h
  replace h := and_one _ _ h
  obtain ⟨h, h4⟩ := h
  replace h := and_one _ _ h
  obtain ⟨h, h3⟩ := h
  replace h := and_one _ _ h
  obtain ⟨h, h2⟩ := h
  replace h := and_one _ _ h
  obtain ⟨h, h1⟩ := h
  replace h := and_one _ _ h
  obtain ⟨h, h0⟩ := h
  have r10 := real_of_all x10 bcast_S_S256 reducesTo_S256_S_d0 j h10
  clear h10
  have r9 := real_of_all x9 bcast_S_S256 reducesTo_S256_S_d0 j h9
  clear h9
  have r8 := real_of_all x8 bcast_S_S512x256 reducesTo_S512x256_S_d0_1 j h8
  clear h8
  have r6 := real_of_all x6 bcast_S_S256 reducesTo_S256_S_d0 j h6
  clear h6
  have r5 := real_of_all x5 bcast_S_S256 reducesTo_S256_S_d0 j h5
  clear h5
  have r4 := real_of_all x4 bcast_S_S256x256 reducesTo_S256x256_S_d0_1 j h4
  clear h4
  have r3 := real_of_all x3 bcast_S_S8192x512 reducesTo_S8192x512_S_d0_1 j h3
  clear h3
  have r2 := real_of_all x2 bcast_S_S8192x3 reducesTo_S8192x3_S_d0_1 j h2
  clear h2
  have r1 := real_of_all x1 bcast_S_S32768x256 reducesTo_S32768x256_S_d0_1 j h1
  clear h1
  have r0 := real_of_all x0 bcast_S_S32768x3 reducesTo_S32768x3_S_d0_1 j h0
  clear h0
  refine ⟨fun b q => ?_, r0, r1, r2, r3, r4, r5, r6, r8, r9, r10⟩
  have e := Host.reduce_andi_all _ _ reducesTo_S8x4096_S_d0_1 h_S_ j h (ix2 b q)
  have e2 : shapeCast S8x4096 (extractStridedSlice S8x4096x1 ![0, 0, 2] vals slices_S8x4096x4_S8x4096x1_0_0_2) shapeCasts_S8x4096x1_S8x4096 (ix2 b q)
      = vals (ix3 b q 2) := by pointwise
  have e3 : shapeCast S8x4096 (extractStridedSlice S8x4096x1 ![0, 0, 3] vals slices_S8x4096x4_S8x4096x1_0_0_3) shapeCasts_S8x4096x1_S8x4096 (ix2 b q)
      = vals (ix3 b q 3) := by pointwise
  have e4 : Ideal.cmp .ogt (vals (ix3 b q 2)) (vals (ix3 b q 3)) = 1#1 := (congrArg₂ (fun x y => Ideal.cmp .ogt x y) e2 e3).symm.trans e
  by_contra hn
  have e5 : Ideal.cmp .ogt (vals (ix3 b q 2)) (vals (ix3 b q 3)) = 0#1 := by
    show BitVec.ofBool (decide ((vals (ix3 b q 3) : EReal) < vals (ix3 b q 2))) = 0#1
    rw [decide_eq_false hn]; rfl
  rw [e5] at e4
  exact absurd e4 (by decide)

theorem fn_eq : fn (F := Ideal) x0 x1 x2 x3 x4 x5 x6 x7 x8 x9 x10 x11 x12 x13
    = fn_part1 (F := Ideal) x0 x1 x2 x3 x4 x5 x6 x8 x9 x10
      (Host.topK S8x4096x4 2 (FloatOps.cmpfTotal .gt) (Cert.ReferenceIdeal.Read.val_main_v66 (F := Ideal) x0 x2) sliceFits_S8x4096x1024_S8x4096x4).1 :=
  rfl

/-- What the precondition says. -/
theorem pre_read (h : fn (F := Ideal) x0 x1 x2 x3 x4 x5 x6 x7 x8 x9 x10 x11 x12 x13 = fun _ => 1#1) :
    (∀ r, dR x0 x2 r (Cert.ReferenceIdeal.Val.near x0 x2 r ⟨2, by decide⟩) < dR x0 x2 r (Cert.ReferenceIdeal.Val.near x0 x2 r ⟨3, by decide⟩))
      ∧ IsReal x0 ∧ IsReal x1 ∧ IsReal x2 ∧ IsReal x3 ∧ IsReal x4 ∧ IsReal x5 ∧ IsReal x6 ∧ IsReal x8 ∧ IsReal x9 ∧ IsReal x10 := by
  rw [fn_eq] at h
  obtain ⟨hg, hr⟩ := part1_read x0 x1 x2 x3 x4 x5 x6 x8 x9 x10 _ _ (congrFun h (Shape.Idx.first h_S_))
  refine ⟨fun r => ?_, hr⟩
  have hv : ∀ k : Fin 4, (Host.topK S8x4096x4 2 (FloatOps.cmpfTotal (F := Ideal) (φ := .f32) .gt) (Cert.ReferenceIdeal.Read.val_main_v66 (F := Ideal) x0 x2)
      sliceFits_S8x4096x1024_S8x4096x4).1 (ix3 ⟨r.val / 4096, by omega⟩ ⟨r.val % 4096, by omega⟩ k)
      = (-(dR x0 x2 r (Cert.ReferenceIdeal.Val.near x0 x2 r ⟨k.val, by omega⟩)) : EReal) := fun k =>
    (topK_values (A := 8) (B := 4096) (n := 1024) (K := 4) (by decide) (Cert.ReferenceIdeal.Read.val_main_v66 (F := Ideal) x0 x2)
      sliceFits_S8x4096x1024_S8x4096x4 ⟨r.val / 4096, by omega⟩ ⟨r.val % 4096, by omega⟩ k).trans (Cert.ReferenceIdeal.Val.v66_at x0 x2 r _)
  have hl := hg ⟨r.val / 4096, by omega⟩ ⟨r.val % 4096, by omega⟩
  rw [hv, hv, EReal.neg_lt_neg_iff] at hl
  exact hl

end

end Cert.Pre_separated_reals.Val
-- ==== Proof.Value.Equal.lean ====
/- The kernel and the reference give the same result wherever the precondition holds. -/
module

public import proofs.«01_k».proof.Proof.Value.Kernel
public import proofs.«01_k».proof.Proof.Value.Pre

@[expose] public section

noncomputable section

namespace Cert.Val

open Idealize.ShloMosaic Idealize.ShloMosaic.TcCoe Cert.KernelIdeal Cert.KernelIdeal.Gen Cert.KernelIdeal.Val

variable (m : (ℓ : Loc nD τ sig) → Buf (Elt Ideal) ℓ) (ρ : Dev nD → PrngReg) (c : Dev nD)

/-- The reference's value of the kernel's arguments. -/
abbrev refValue : Mat 32768 256 :=
  Cert.ReferenceIdeal.Read.val_main_v88 (F := Ideal) (A0 m c) (A1 m c) (A2 m c) (A3 m c) (A4 m c) (A5 m c) (A6 m c) (A7 m c) (A8 m c) (A9 m c)
    (A10 m c) (A11 m c)

/-- The first layer of the kernel is that of the reference when its numbers are real. -/
theorem act1_eq (h1 : IsReal (A1 m c)) (h4 : IsReal (A4 m c)) (h5 : IsReal (A5 m c)) (h6 : IsReal (A6 m c)) (r : Fin 32768) (j : Fin 256) :
    actK (fun r => Y1 m c r j) (Ideal.ofBits .f32 0x47000000#32) (A6 m c (ix1 j)) (A7 m c (ix1 j)) r
      = actR (fun r => Y1 m c r j) (Ideal.ofBits .f32 0x47000000#32) (A6 m c (ix1 j)) (A7 m c (ix1 j)) r :=
  act_eq (by decide) _ (fun r => linv_real h1 h4 h5 r j) _ _ _ n1_bits (h6 _) r

/-- The second layer of the kernel is that of the reference when its numbers are real. -/
theorem act2_eq (h3 : IsReal (A3 m c)) (h8 : IsReal (A8 m c)) (h9 : IsReal (A9 m c)) (h10 : IsReal (A10 m c)) (r : Fin 8192) (j : Fin 256) :
    actK (fun r => Y2 m c r j) (Ideal.ofBits .f32 0x46000000#32) (A10 m c (ix1 j)) (A11 m c (ix1 j)) r
      = actR (fun r => Y2 m c r j) (Ideal.ofBits .f32 0x46000000#32) (A10 m c (ix1 j)) (A11 m c (ix1 j)) r :=
  act_eq (by decide) _ (fun r => linv_real h3 h8 h9 r j) _ _ _ n2_bits (h10 _) r

/-- Entry by entry, the kernel's result is the reference's. -/
theorem entry_eq (x12 x13 : IVec S9 32)
    (h : Cert.Pre_separated_reals.fn (F := Ideal) (A0 m c) (A1 m c) (A2 m c) (A3 m c) (A4 m c) (A5 m c) (A6 m c) (A7 m c) (A8 m c) (A9 m c)
      (A10 m c) (A11 m c) x12 x13 = fun _ => 1#1) (r : Fin 32768) (j : Fin 256) :
    arr S32768x256 (W8 m ρ c (Proc.devRef .tc main_v48)) (ix2 r j) = refValue m c (ix2 r j) := by
  obtain ⟨hgap, h0, h1, h2, h3, h4, h5, h6, h8, h9, h10⟩ := Cert.Pre_separated_reals.Val.pre_read _ _ _ _ _ _ _ _ _ _ _ _ _ _ h
  obtain ⟨a1, a2, a3, ht, hk⟩ := kernel_value m ρ c r j
  have hd : dK (A0 m c) (A2 m c) r = dR (A0 m c) (A2 m c) r := funext fun i => (dist_eq h0 h2 r i).1
  rw [hd] at ht hk
  have hG : (fun i => actK (fun r => Y2 m c r j) (Ideal.ofBits .f32 0x46000000#32) (A10 m c (ix1 j)) (A11 m c (ix1 j)) (pt r i))
      = fun i => actR (fun r => Y2 m c r j) (Ideal.ofBits .f32 0x46000000#32) (A10 m c (ix1 j)) (A11 m c (ix1 j)) (pt r i) :=
    funext fun i => act2_eq m c h3 h8 h9 h10 (pt r i) j
  rw [act1_eq m c h1 h4 h5 h6 r j, hG, interp_eq _ _ (fun i => (dist_eq h0 h2 r i).2) (Cert.ReferenceIdeal.Val.near (A0 m c) (A2 m c) r)
    (Cert.ReferenceIdeal.Val.near_bijective _ _ r) (Cert.ReferenceIdeal.Val.near_sorted _ _ r) (hgap r) ht] at hk
  exact hk.trans (Cert.ReferenceIdeal.Val.ref_value (A0 m c) (A1 m c) (A2 m c) (A3 m c) (A4 m c) (A5 m c) (A6 m c) (A7 m c) (A8 m c) (A9 m c)
    (A10 m c) (A11 m c) r j).symm

/-- The kernel's result is the reference's. -/
theorem result_eq (x12 x13 : IVec S9 32)
    (h : Cert.Pre_separated_reals.fn (F := Ideal) (A0 m c) (A1 m c) (A2 m c) (A3 m c) (A4 m c) (A5 m c) (A6 m c) (A7 m c) (A8 m c) (A9 m c)
      (A10 m c) (A11 m c) x12 x13 = fun _ => 1#1) :
    refValue m c = W8 m ρ c (Proc.devRef .tc main_v48) := funext fun i => by
  have hi : i = ix2 (i 0) (i 1) := funext fun k => by
    match k with
    | ⟨0, _⟩ => rfl
    | ⟨1, _⟩ => rfl
  rw [hi]
  exact (entry_eq m ρ c x12 x13 h (i 0) (i 1)).symm

end Cert.Val
-- ==== Proof.lean ====
/- The proof of the certificate's claim: the three programs run to the end, the idealisation keeps the kernel, and the kernel's result
  is the reference's. -/
module

public import proofs.«01_k».proof.Defs
public import proofs.«01_k».proof.Proof.Bits.Run
public import proofs.«01_k».proof.Proof.Ideal.Run
public import proofs.«01_k».proof.Proof.Gen.ReferenceIdeal.Run
public import proofs.«01_k».proof.Proof.Gen.ReferenceIdeal.Read
public import proofs.«01_k».proof.Proof.Gen.Pre_separated_reals
public import proofs.«01_k».proof.Proof.Value.Equal
public import Idealize.ShloMosaic.Lib.Claim
public import Idealize.ShloMosaic.Lib.Quiescent

@[expose] public section

noncomputable section

namespace Cert.Proof

open Idealize.ShloMosaic Idealize.SL.Sem

/-- The kernel as compiled runs to the end, with its arguments unchanged and its semaphores at zero. -/
theorem kernel_frame : Cert.quiescent_Kernel := fun m g _ => by
  exact θ_run_mono (Cert.Kernel.Gen.runs m g) fun _ h => ⟨fun c => (h.1 c).2, h.2⟩

/-- The idealised kernel runs to the end, with its arguments unchanged and its semaphores at zero. -/
theorem ideal_frame : Cert.quiescent_KernelIdeal := fun m g _ => by
  exact θ_run_mono (Cert.KernelIdeal.Gen.runs m g) fun _ h => ⟨fun c => (h.1 c).2, h.2⟩

/-- The idealised reference runs to the end, with its arguments unchanged and its semaphores at zero. -/
theorem reference_frame : Cert.quiescent_ReferenceIdeal := fun m g _ => by
  exact θ_run_mono (Cert.ReferenceIdeal.Value.run m g) fun r h =>
    ⟨fun c => (h c).2, sem_eq_zero_of_no_sems rfl r.2⟩

/-- The idealised kernel runs so under the precondition too. -/
theorem ideal_frame_pre : Cert.quiescent_KernelIdeal_pre_separated_reals := fun m g _ => ideal_frame m g trivial

/-- The idealised reference runs so under the precondition too. -/
theorem reference_frame_pre : Cert.quiescent_ReferenceIdeal_pre_separated_reals := fun m g _ => reference_frame m g trivial

/-- Under the precondition the idealised kernel and the idealised reference give the same result. -/
theorem same_result : Cert.algebraic_KernelIdeal_ReferenceIdeal_pre_separated_reals := fun m g m' g' hp he => by
  refine ⟨fun c => Cert.KernelIdeal.Gen.W8 m g c (Proc.devRef .tc Cert.KernelIdeal.main_v48), θ_run_mono (Cert.KernelIdeal.Gen.runs m g) fun _ h => h.1,
    θ_run_mono (Cert.ReferenceIdeal.Value.run m' g') fun r h c => ⟨(h c).1.trans ?_, (h c).2⟩⟩
  obtain ⟨e0, e1, e2, e3, e4, e5, e6, e7, e8, e9, e10, e11, _⟩ := he c
  rw [Cert.ReferenceIdeal.Read.val_main_v88_eq m' c, e0, e1, e2, e3, e4, e5, e6, e7, e8, e9, e10, e11]
  exact Cert.Val.result_eq m g c _ _ (hp c)

/-- The claim of the certificate. -/
theorem claim : Cert.Claim :=
  ⟨Cert.Kernel.Gen.facts, Cert.KernelIdeal.Gen.facts, Cert.ReferenceIdeal.Gen.facts, Cert.Pre_separated_reals.Gen.facts,
    kernel_frame, ideal_frame, ideal_frame_pre, reference_frame, reference_frame_pre, trivial, same_result⟩

end Cert.Proof

end
